-- ==== Defs.lean ====
def Pre_Kernel [hPre_rows_exist : Cert.Pre_rows_exist.Facts] (m : (ℓ : Loc Cert.Kernel.nD Cert.Kernel.τ Cert.Kernel.sig) → Buf (Elt Bits) ℓ) : Prop :=
  ∀ c : Dev Cert.Kernel.nD,
    (Cert.Pre_rows_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_rows_exist : Cert.Pre_rows_exist.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_exist [hPre_rows_exist : Cert.Pre_rows_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_rows_exist : Cert.Pre_rows_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_exist [hReferenceIdeal : Cert.ReferenceIdeal.Facts] [hPre_rows_exist : Cert.Pre_rows_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_exist : Cert.Pre_rows_exist.Facts),
    quiescent_Kernel (hKernel := hKernel) (hPre_rows_exist := hPre_rows_exist)
    ∧ quiescent_KernelIdeal (hKernelIdeal := hKernelIdeal) (hPre_rows_exist := hPre_rows_exist)
    ∧ quiescent_ReferenceIdeal (hReferenceIdeal := hReferenceIdeal)
    ∧ quiescent_ReferenceIdeal_pre_rows_exist (hReferenceIdeal := hReferenceIdeal) (hPre_rows_exist := hPre_rows_exist)
    ∧ preserves_Kernel_KernelIdeal
    ∧ algebraic_KernelIdeal_ReferenceIdeal (hKernelIdeal := hKernelIdeal) (hReferenceIdeal := hReferenceIdeal) (hPre_rows_exist := hPre_rows_exist)
-- ==== Pre_rows_exist.lean ====
abbrev S16384 : Shape := ⟨1, ![16384]⟩
abbrev S100000x128 : Shape := ⟨2, ![100000, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x128 .f32) (main_arg3 : FVec F S100000x128 .f32) (main_arg4 : FVec F S256x256 .f32) (main_arg5 : FVec F S256 .f32) (main_arg6 : FVec F S1x256 .f32) (main_arg7 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S100000x128 : Shape := ⟨2, ![100000, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S2x32x2x128 : Shape := ⟨4, ![2, 32, 2, 128]⟩
abbrev S1x1 : Shape := ⟨2, ![1, 1]⟩
abbrev S1x32x2x128 : Shape := ⟨4, ![1, 32, 2, 128]⟩
abbrev S32x2x128 : Shape := ⟨3, ![32, 2, 128]⟩
abbrev S8192x128 : Shape := ⟨2, ![8192, 128]⟩
abbrev S2x128 : Shape := ⟨2, ![2, 128]⟩
abbrev S128x128 : Shape := ⟨2, ![128, 128]⟩
abbrev S_ : Shape := ⟨0, ![]⟩
abbrev S1x2x128 : Shape := ⟨3, ![1, 2, 128]⟩
abbrev S1x128 : Shape := ⟨2, ![1, 128]⟩
abbrev S128 : Shape := ⟨1, ![128]⟩
abbrev S1x8192 : Shape := ⟨2, ![1, 8192]⟩
abbrev S2048x128 : Shape := ⟨2, ![2048, 128]⟩
abbrev S1x2048 : Shape := ⟨2, ![1, 2048]⟩
abbrev S2048x256 : Shape := ⟨2, ![2048, 256]⟩
abbrev S1x16384 : Shape := ⟨2, ![1, 16384]⟩
abbrev S16384x1 : Shape := ⟨2, ![16384, 1]⟩

abbrev nBuf : Table → Nat
  | .hbm => 28
  | .local .tc .vmem => 20
  | .local .scVector .vmem => 12
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S2x32x2x128, .i32⟩
  | .hbm, ⟨9, _⟩ => ⟨S2x32x2x128, .i32⟩
  | .hbm, ⟨10, _⟩ => ⟨S1x256, .f32⟩
  | .hbm, ⟨11, _⟩ => ⟨S1x1, .f32⟩
  | .hbm, ⟨12, _⟩ => ⟨S1x32x2x128, .i32⟩
  | .hbm, ⟨13, _⟩ => ⟨S32x2x128, .i32⟩
  | .hbm, ⟨14, _⟩ => ⟨S1x32x2x128, .i32⟩
  | .hbm, ⟨15, _⟩ => ⟨S32x2x128, .i32⟩
  | .hbm, ⟨16, _⟩ => ⟨S8192x128, .f32⟩
  | .hbm, ⟨17, _⟩ => ⟨S8192x128, .f32⟩
  | .hbm, ⟨18, _⟩ => ⟨S1x32x2x128, .i32⟩
  | .hbm, ⟨19, _⟩ => ⟨S32x2x128, .i32⟩
  | .hbm, ⟨20, _⟩ => ⟨S1x32x2x128, .i32⟩
  | .hbm, ⟨21, _⟩ => ⟨S32x2x128, .i32⟩
  | .hbm, ⟨22, _⟩ => ⟨S8192x128, .f32⟩
  | .hbm, ⟨23, _⟩ => ⟨S8192x128, .f32⟩
  | .hbm, ⟨24, _⟩ => ⟨S1x8192, .f32⟩
  | .hbm, ⟨25, _⟩ => ⟨S1x8192, .f32⟩
  | .hbm, ⟨26, _⟩ => ⟨S1x16384, .f32⟩
  | .hbm, ⟨27, _⟩ => ⟨S16384x1, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S256x256, .f32⟩
  | .local .tc .vmem, ⟨5, _⟩ => ⟨S1x256, .f32⟩
  | .local .tc .vmem, ⟨6, _⟩ => ⟨S1x256, .f32⟩
  | .local .tc .vmem, ⟨7, _⟩ => ⟨S1x1, .f32⟩
  | .local .tc .vmem, ⟨8, _⟩ => ⟨S1x2048, .f32⟩
  | .local .tc .vmem, ⟨9, _⟩ => ⟨S1x2048, .f32⟩
  | .local .tc .vmem, ⟨10, _⟩ => ⟨S2048x128, .f32⟩
  | .local .tc .vmem, ⟨11, _⟩ => ⟨S2048x128, .f32⟩
  | .local .tc .vmem, ⟨12, _⟩ => ⟨S2048x128, .f32⟩
  | .local .tc .vmem, ⟨13, _⟩ => ⟨S2048x128, .f32⟩
  | .local .tc .vmem, ⟨14, _⟩ => ⟨S256x256, .f32⟩
  | .local .tc .vmem, ⟨15, _⟩ => ⟨S1x256, .f32⟩
  | .local .tc .vmem, ⟨16, _⟩ => ⟨S1x256, .f32⟩
  | .local .tc .vmem, ⟨17, _⟩ => ⟨S1x1, .f32⟩
  | .local .tc .vmem, ⟨18, _⟩ => ⟨S1x2048, .f32⟩
  | .local .tc .vmem, ⟨19, _⟩ => ⟨S1x2048, .f32⟩
  | .local .scVector .vmem, ⟨0, _⟩ => ⟨S2x128, .i32⟩
  | .local .scVector .vmem, ⟨1, _⟩ => ⟨S2x128, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S2x128, .i32⟩
  | .local .scVector .vmem, ⟨7, _⟩ => ⟨S2x128, .i32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_arg2_scv : Ref sig .scVector := ⟨.hbm, 2, rfl⟩
abbrev main_arg3_scv : Ref sig .scVector := ⟨.hbm, 3, rfl⟩
abbrev main_v5_scv : Ref sig .scVector := ⟨.hbm, 13, rfl⟩
abbrev main_v7_scv : Ref sig .scVector := ⟨.hbm, 15, rfl⟩
abbrev main_v8_0_scv : Ref sig .scVector := ⟨.hbm, 16, rfl⟩
abbrev main_v8_1_scv : Ref sig .scVector := ⟨.hbm, 17, rfl⟩
abbrev main_v10_scv : Ref sig .scVector := ⟨.hbm, 19, rfl⟩
abbrev main_v12_scv : Ref sig .scVector := ⟨.hbm, 21, rfl⟩
abbrev main_v13_0_scv : Ref sig .scVector := ⟨.hbm, 22, rfl⟩
abbrev main_v13_1_scv : Ref sig .scVector := ⟨.hbm, 23, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg6_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg6_1 : Ref sig .tc := ⟨.vmem, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_33_r0 : BitVec 32 := 0#32
  let c0_i32_34_r0 : BitVec 32 := 0#32
  ![v1.toNat, 0, 0]
def k0_off2 (i : grid0.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v18 : BitVec 32 := Scalar.addi v2 c0_i32_18
  let c0_i32_33_r2 : BitVec 32 := 0#32
  ![v18.toNat, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_33_r0 : BitVec 32 := 0#32
  let c0_i32_34_r0 : BitVec 32 := 0#32
  ![v1.toNat, 0, 0]
def k1_off2 (i : grid1.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v18 : BitVec 32 := Scalar.addi v2 c0_i32_18
  let c0_i32_33_r2 : BitVec 32 := 0#32
  ![v18.toNat, 0]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S100000x128 : Shape := ⟨2, ![100000, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S256x1 : Shape := ⟨2, ![256, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x128, .f32⟩
  | .hbm, ⟨27, _⟩ => ⟨S16384x128, .i1⟩
  | .hbm, ⟨28, _⟩ => ⟨S_, .f32⟩
  | .hbm, ⟨29, _⟩ => ⟨S16384x128, .f32⟩
  | .hbm, ⟨30, _⟩ => ⟨S16384x128, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x128, .f32⟩
  | .hbm, ⟨50, _⟩ => ⟨S16384x128, .i1⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S16384x256, .f32⟩
  | .hbm, ⟨55, _⟩ => ⟨S_, .f32⟩
  | .hbm, ⟨56, _⟩ => ⟨S16384x256, .f32⟩
  | .hbm, ⟨57, _⟩ => ⟨S16384x256, .f32⟩
  | .hbm, ⟨58, _⟩ => ⟨S256x256, .f32⟩
  | .hbm, ⟨59, _⟩ => ⟨S16384x256, .f32⟩
  | .hbm, ⟨60, _⟩ => ⟨S1x256, .f32⟩
  | .hbm, ⟨61, _⟩ => ⟨S16384x256, .f32⟩
  | .hbm, ⟨62, _⟩ => ⟨S16384x256, .f32⟩
  | .hbm, ⟨63, _⟩ => ⟨S_, .f32⟩
  | .hbm, ⟨64, _⟩ => ⟨S16384x256, .f32⟩
  | .hbm, ⟨65, _⟩ => ⟨S16384x256, .f32⟩
  | .hbm, ⟨66, _⟩ => ⟨S256x1, .f32⟩
  | .hbm, ⟨67, _⟩ => ⟨S16384x1, .f32⟩
  | .hbm, ⟨68, _⟩ => ⟨S1x1, .f32⟩
  | .hbm, ⟨69, _⟩ => ⟨S16384x1, .f32⟩
  | .hbm, ⟨70, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_call2_cst : Ref sig .tc := ⟨.hbm, 55, rfl⟩
abbrev main_call2_v0 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_call3_cst : Ref sig .tc := ⟨.hbm, 63, rfl⟩
abbrev main_call3_v0 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩

abbrev nD : Nat := 1
abbrev τ : Topo := Topo.v7x

variable {F : FTy → Type} [FloatOps F]
-- ==== Proof.Setup.lean ====
/- The program as the launch theorem for SparseCore programs sees it, the resource algebra of its certificate, and the
   shares in which the two tables are handed to the vector subcores. -/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The kernel's labels: the four bodies, and the two pipelines' own. -/
abbrev ΛP : Labels := Pipeline.Sig Λ₀ (Fin 2) fun p => (pcfgs (F := F) p).Adm
/-- The SparseCore configuration: two calls, each over both SparseCores and their sixteen subcores. -/
abbrev K : SparseCore.Cfg τ sig (ΛP (F := F)) 2 := sc (F := F)
/-- The body table of the pipelines and the kernels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts the launch decides. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshake cells' rounds. -/
abbrev UH : Type := URounds (GSem nD τ sig) ℕ
/-- The staging cells' rounds of the two pipelines. -/
abbrev UP : Type := URounds (GSem nD τ sig) Unit
/-- The certificate's algebra: handshakes, staging cells, transfer counters. -/
abbrev UU : Type := UH × (UP × Counters)

local notation "𝕄" => MT nD τ sig (HIx 2) (Elt F) ℕ UU ℕ

/-- Where the handshakes' rounds sit. -/
abbrev EH : Emb UH (MT nD τ sig (HIx 2) (Elt F) ℕ UU ℕ) := embL
/-- Where the staging cells' rounds sit. -/
def EP : Emb UP (MT nD τ sig (HIx 2) (Elt F) ℕ UU ℕ) := (Emb.inl : Emb UP (UP × Counters)).trans embR

instance EP_landsIn : (EP : Emb UP (MT nD τ sig (HIx 2) (Elt F) ℕ UU ℕ)).LandsIn (upEmb : UEmb _ (MT nD τ sig (HIx 2) (Elt F) ℕ UU ℕ)) := by
  unfold EP embR; infer_instance

end Cert.Proof

end
-- ==== Proof.Rows.lean ====
/- What one vector subcore's task reads and writes, as plain array facts: which row of a table a word names, the rows the
   task's views cover, and the value a gather through a list of words delivers. -/
module

public import proofs.«01_k».proof.Proof.Setup
public import Idealize.ShloMosaic.Lib.ValueLayout

@[expose] public section

set_option maxRecDepth 16384

noncomputable section

namespace Cert.Proof

open Cert.KernelIdeal Cert.KernelIdeal.Gen
open Idealize.ShloMosaic Idealize.ShloMosaic.ValueIdx

variable {F : FTy → Type}

/-- The SparseCore of a pair of coordinates. -/
abbrev cV (L : grid0.Coords) : Fin τ.nSC := (L 0).castLE hcore0
/-- The vector subcore of a pair of coordinates. -/
abbrev jV (L : grid0.Coords) : Fin τ.nSub := (L 1).castLE hsub0

/-- The whole table, as the gather addresses it. -/
abbrev tabAll (t : Memref sig .scVector .hbm S100000x128 .f32) : Memref sig .scVector .hbm S100000x128 .f32 :=
  t.slice (Rect.unit (s := S100000x128) ![0, 0] S100000x128.size inb_S100000x128_S100000x128_0_0) (fun _ => rfl)
/-- The task's two rows of the list of row numbers. -/
abbrev idxRows (a : Memref sig .scVector .hbm S32x2x128 .i32) (L : grid0.Coords) : Memref sig .scVector .hbm S2x128 .i32 :=
  (a.slice (Rect.unit (s := S32x2x128) (k0_off1 L) S1x2x128.size (k0_off1_inb L)) (fun _ => rfl)).squeeze S2x128 squeezes_S1x2x128_S2x128
/-- Row 0 of the list in the subcore's memory. -/
abbrev list0 (a : Memref sig .scVector .vmem S2x128 .i32) : Memref sig .scVector .vmem S128 .i32 :=
  (a.slice (Rect.unit (s := S2x128) ![0, 0] S1x128.size inb_S2x128_S1x128_0_0) (fun _ => rfl)).squeeze S128 squeezes_S1x128_S128
/-- Row 1 of the list in the subcore's memory. -/
abbrev list1 (a : Memref sig .scVector .vmem S2x128 .i32) : Memref sig .scVector .vmem S128 .i32 :=
  (a.slice (Rect.unit (s := S2x128) ![1, 0] S1x128.size inb_S2x128_S1x128_1_0) (fun _ => rfl)).squeeze S128 squeezes_S1x128_S128
/-- The task's first 128 rows of the result. -/
abbrev out0 (a : Memref sig .scVector .hbm S8192x128 .f32) (L : grid0.Coords) : Memref sig .scVector .hbm S128x128 .f32 :=
  a.slice (Rect.unit (s := S8192x128) (k0_off2 L 0#32) S128x128.size (k0_off2_inb L 0)) (fun _ => rfl)
/-- The task's other 128 rows of the result. -/
abbrev out1 (a : Memref sig .scVector .hbm S8192x128 .f32) (L : grid0.Coords) : Memref sig .scVector .hbm S128x128 .f32 :=
  a.slice (Rect.unit (s := S8192x128) (k0_off2 L 128#32) S128x128.size (k0_off2_inb L 1)) (fun _ => rfl)

/-- The table row a word names (the word itself when it is below the number of rows). -/
def tabRow (w : BitVec 32) : Fin 100000 := ⟨w.toNat % 100000, Nat.mod_lt _ (by decide)⟩

/-- The result of one gathering call as an array: row `256 w + 128 j + r` is the table row that word `(w, j, r)` names. -/
def gathered {α : Type} (t : S100000x128.Idx → α) (ix : S32x2x128.Idx → BitVec 32) : S8192x128.Idx → α := fun x =>
  t (ix2 (tabRow (ix (ix3 (⟨(x 0).val / 256, by have := (x 0).isLt; exact Nat.div_lt_of_lt_mul this⟩ : Fin 32)
    (⟨(x 0).val / 128 % 2, Nat.mod_lt _ (by decide)⟩ : Fin 2) (⟨(x 0).val % 128, Nat.mod_lt _ (by decide)⟩ : Fin 128)))) (x 1))

/-- Row `k` of a list that was written whole reads row `k` of what was written. -/
theorem list0_read (a : Memref sig .scVector .vmem S2x128 .i32) (f : a.view.ty.Contents (Elt F)) (w : S2x128.Idx → Elt F .i32) (r : Fin 128) :
    (list0 a).view.read (Elt F) (a.view.writes (Elt F) f [⟨Rect.whole S2x128, w⟩]) (ix1 r) = w (ix2 (0 : Fin 2) r) := by
  have h : a.view.read (Elt F) (a.view.writes (Elt F) f [⟨Rect.whole S2x128, w⟩]) = w := View.read_writes_whole a.view f w
  refine (congrFun h _).trans (congrArg w ?_)
  revert r
  decide +kernel

theorem list1_read (a : Memref sig .scVector .vmem S2x128 .i32) (f : a.view.ty.Contents (Elt F)) (w : S2x128.Idx → Elt F .i32) (r : Fin 128) :
    (list1 a).view.read (Elt F) (a.view.writes (Elt F) f [⟨Rect.whole S2x128, w⟩]) (ix1 r) = w (ix2 (1 : Fin 2) r) := by
  have h : a.view.read (Elt F) (a.view.writes (Elt F) f [⟨Rect.whole S2x128, w⟩]) = w := View.read_writes_whole a.view f w
  refine (congrFun h _).trans (congrArg w ?_)
  revert r
  decide +kernel

/-- A gather of 128 rows of a table through a list of words in range. -/
theorem gather_apply (hg : S100000x128.Gathers 0 S128x128) (g : S100000x128.Idx → Elt F .f32) (l : S128.Idx → Elt F .i32)
    (hn : S128.numel = 128) (h : ∀ x, (l x).toNat < 100000) (x : S128x128.Idx) :
    SparseCore.gatherPayload hg g (SparseCore.rows l hn h) x = g (ix2 (tabRow (l (ix1 (x 0)))) (x 1)) := by
  refine congrArg g ?_
  funext b
  match b with
  | ⟨0, _⟩ =>
    refine (Shape.Gathers.idx_axis hg _ x).trans (Fin.ext ?_)
    have e : S128.rowMajor.symm ((x 0).cast hn.symm) = ix1 (x 0) := by
      generalize x 0 = r
      have hd : ∀ r : Fin 128, S128.rowMajor.symm (r.cast (by decide : 128 = S128.numel)) = ix1 r := by decide +kernel
      exact hd r
    show (l (S128.rowMajor.symm ((x 0).cast hn.symm))).toNat = (l (ix1 (x 0))).toNat % 100000
    rw [e]
    exact (Nat.mod_eq_of_lt (h _)).symm
  | ⟨1, _⟩ => exact Fin.ext (Shape.Gathers.idx_of_ne hg _ x ⟨1, by decide⟩ (by decide))

/-- The number of a task among the thirty-two: subcores count in twos, the SparseCore is the parity. -/
def taskNo (L : grid0.Coords) : Fin 32 := ⟨2 * (L 1).val + (L 0).val, by
  have h0 : (L 0).val < 2 := (L 0).isLt
  have h1 : (L 1).val < 16 := (L 1).isLt
  omega⟩

/-- The task's rows of the list, at `(j, r)`: the list's word `(task, j, r)`. -/
theorem idxRows_read (a : Memref sig .scVector .hbm S32x2x128 .i32) (L : grid0.Coords) (I : a.view.ty.Contents (Elt F)) (j : Fin 2) (r : Fin 128) :
    (idxRows a L).view.read (Elt F) I (ix2 j r) = a.view.read (Elt F) I (ix3 (taskNo L) j r) := by
  refine congrArg (a.view.read (Elt F) I) ?_
  have e : Shape.reshapeEquiv (s := S1x2x128) (s' := S2x128) (by decide) (ix2 j r) = ix3 (⟨0, Nat.one_pos⟩ : Fin 1) j r :=
    reshapeEquiv_ix2_1ab _ j r
  refine (congrArg (Rect.unit (s := S32x2x128) (k0_off1 L) S1x2x128.size (k0_off1_inb L)).emb e).trans ?_
  funext b
  apply Fin.ext
  rw [Rect.emb_apply]
  match b with
  | ⟨0, _⟩ => show k0_off1 L 0 + 1 * 0 = 2 * (L 1).val + (L 0).val; rw [k0_off1_eq]; rfl
  | ⟨1, _⟩ => show k0_off1 L 1 + 1 * j.val = j.val; rw [k0_off1_eq]; simp
  | ⟨2, _⟩ => show k0_off1 L 2 + 1 * r.val = r.val; rw [k0_off1_eq]; simp

/-- Where the task's first block's element sits in the result. -/
theorem out0_emb (L : grid0.Coords) (x : S128x128.Idx) :
    (Rect.unit (s := S8192x128) (k0_off2 L 0#32) S128x128.size (k0_off2_inb L 0)).emb x
      = ix2 (⟨256 * (taskNo L).val + (x 0).val, by have := (taskNo L).isLt; have h : (x 0).val < 128 := (x 0).isLt; omega⟩ : Fin 8192) (x 1 : Fin 128) := by
  funext b
  apply Fin.ext
  rw [Rect.emb_apply]
  have e : k0_off2 L 0#32 = ![512 * (L 1).val + 256 * (L 0).val + 128 * 0, 0] := k0_off2_eq L 0
  match b with
  | ⟨0, _⟩ =>
    show k0_off2 L 0#32 0 + 1 * (x 0).val = 256 * (2 * (L 1).val + (L 0).val) + (x 0).val
    rw [e]; show 512 * (L 1).val + 256 * (L 0).val + 128 * 0 + 1 * (x 0).val = _; omega
  | ⟨1, _⟩ => show k0_off2 L 0#32 1 + 1 * (x 1).val = (x 1).val; rw [e]; simp

/-- Where the task's other block's element sits in the result. -/
theorem out1_emb (L : grid0.Coords) (x : S128x128.Idx) :
    (Rect.unit (s := S8192x128) (k0_off2 L 128#32) S128x128.size (k0_off2_inb L 1)).emb x
      = ix2 (⟨256 * (taskNo L).val + 128 + (x 0).val, by have := (taskNo L).isLt; have h : (x 0).val < 128 := (x 0).isLt; omega⟩ : Fin 8192) (x 1 : Fin 128) := by
  funext b
  apply Fin.ext
  rw [Rect.emb_apply]
  have e : k0_off2 L 128#32 = ![512 * (L 1).val + 256 * (L 0).val + 128 * 1, 0] := k0_off2_eq L 1
  match b with
  | ⟨0, _⟩ =>
    show k0_off2 L 128#32 0 + 1 * (x 0).val = 256 * (2 * (L 1).val + (L 0).val) + 128 + (x 0).val
    rw [e]; show 512 * (L 1).val + 256 * (L 0).val + 128 * 1 + 1 * (x 0).val = _; omega
  | ⟨1, _⟩ => show k0_off2 L 128#32 1 + 1 * (x 1).val = (x 1).val; rw [e]; simp

/-- The array of gathered rows at an element of the task's first block. -/
theorem gathered_out0 {α : Type} (t : S100000x128.Idx → α) (ix : S32x2x128.Idx → BitVec 32) (L : grid0.Coords) (x : S128x128.Idx) :
    gathered t ix ((Rect.unit (s := S8192x128) (k0_off2 L 0#32) S128x128.size (k0_off2_inb L 0)).emb x)
      = t (ix2 (tabRow (ix (ix3 (taskNo L) (0 : Fin 2) (x 0 : Fin 128)))) (x 1 : Fin 128)) := by
  have h : (x 0).val < 128 := (x 0).isLt
  rw [out0_emb]
  unfold gathered
  refine congrArg t (congrArg₂ ix2 (congrArg tabRow (congrArg ix ?_)) rfl)
  refine congr (congrArg₂ ix3 (Fin.ext ?_) (Fin.ext ?_)) (Fin.ext ?_)
  · show (256 * (taskNo L).val + (x 0).val) / 256 = (taskNo L).val; omega
  · show (256 * (taskNo L).val + (x 0).val) / 128 % 2 = 0; omega
  · show (256 * (taskNo L).val + (x 0).val) % 128 = (x 0).val; omega

/-- The array of gathered rows at an element of the task's other block. -/
theorem gathered_out1 {α : Type} (t : S100000x128.Idx → α) (ix : S32x2x128.Idx → BitVec 32) (L : grid0.Coords) (x : S128x128.Idx) :
    gathered t ix ((Rect.unit (s := S8192x128) (k0_off2 L 128#32) S128x128.size (k0_off2_inb L 1)).emb x)
      = t (ix2 (tabRow (ix (ix3 (taskNo L) (1 : Fin 2) (x 0 : Fin 128)))) (x 1 : Fin 128)) := by
  have h : (x 0).val < 128 := (x 0).isLt
  rw [out1_emb]
  unfold gathered
  refine congrArg t (congrArg₂ ix2 (congrArg tabRow (congrArg ix ?_)) rfl)
  refine congr (congrArg₂ ix3 (Fin.ext ?_) (Fin.ext ?_)) (Fin.ext ?_)
  · show (256 * (taskNo L).val + 128 + (x 0).val) / 256 = (taskNo L).val; omega
  · show (256 * (taskNo L).val + 128 + (x 0).val) / 128 % 2 = 1; omega
  · show (256 * (taskNo L).val + 128 + (x 0).val) % 128 = (x 0).val; omega

end Cert.Proof

end
-- ==== Proof.Tile.lean ====
/- One vector subcore's task, at a symbolic pair of SparseCore and subcore and over any buffers: two lists of row numbers
   are copied in, four blocks of 128 table rows are gathered, and each is copied out to its rows of the result. -/
module

public import proofs.«01_k».proof.Proof.Rows

@[expose] public section

set_option maxRecDepth 1000000

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- A row of a list just written whole reads words of what was written. -/
theorem list0_lt (a : Memref sig .scVector .vmem S2x128 .i32) (f : a.view.ty.Contents (Elt F)) (w : S2x128.Idx → Elt F .i32)
    (hw : ∀ j, (w j).toNat < 100000) (x : S128.Idx) :
    ((list0 a).view.read (Elt F) (a.view.writes (Elt F) f [⟨Rect.whole S2x128, w⟩]) x).toNat < 100000 := by
  have h : a.view.read (Elt F) (a.view.writes (Elt F) f [⟨Rect.whole S2x128, w⟩]) = w := View.read_writes_whole a.view f w
  exact (congrFun h _).symm ▸ hw _

/-- The same of the list's other row. -/
theorem list1_lt (a : Memref sig .scVector .vmem S2x128 .i32) (f : a.view.ty.Contents (Elt F)) (w : S2x128.Idx → Elt F .i32)
    (hw : ∀ j, (w j).toNat < 100000) (x : S128.Idx) :
    ((list1 a).view.read (Elt F) (a.view.writes (Elt F) f [⟨Rect.whole S2x128, w⟩]) x).toNat < 100000 := by
  have h : a.view.read (Elt F) (a.view.writes (Elt F) f [⟨Rect.whole S2x128, w⟩]) = w := View.read_writes_whole a.view f w
  exact (congrFun h _).symm ▸ hw _

/-- A block gathered into the subcore's memory through the list's first row, and copied out to a block of the result,
    reads at `(r, c)` column `c` of the table row that word `r` names. -/
theorem block0_value (t : Memref sig .scVector .hbm S100000x128 .f32) (T : t.view.ty.Contents (Elt F))
    (a : Memref sig .scVector .vmem S2x128 .i32) (f : a.view.ty.Contents (Elt F)) (w : S2x128.Idx → Elt F .i32)
    (b : Memref sig .scVector .vmem S128x128 .f32) (fb : b.view.ty.Contents (Elt F))
    (o : Memref sig .scVector .hbm S128x128 .f32) (fo : o.view.ty.Contents (Elt F))
    (hg : S100000x128.Gathers 0 S128x128) (hn : S128.numel = 128)
    (h : ∀ x, ((list0 a).view.read (Elt F) (a.view.writes (Elt F) f [⟨Rect.whole S2x128, w⟩]) x).toNat < 100000) (x : S128x128.Idx) :
    o.view.read (Elt F) (o.view.writes (Elt F) fo [⟨Rect.whole S128x128, ReadAs.same.apply (b.view.read (Elt F) (b.view.writes (Elt F) fb
        [⟨Rect.whole S128x128, SparseCore.gatherPayload hg ((tabAll t).view.read (Elt F) T)
          (SparseCore.rows ((list0 a).view.read (Elt F) (a.view.writes (Elt F) f [⟨Rect.whole S2x128, w⟩])) hn h)⟩]))⟩]) x
      = (tabAll t).view.read (Elt F) T (ix2 (tabRow (w (ix2 (0 : Fin 2) (x 0 : Fin 128)))) (x 1 : Fin 128)) := by
  rw [View.read_writes_whole, View.read_writes_whole]
  refine (gather_apply hg _ _ hn h x).trans ?_
  rw [list0_read a f w (x 0)]

/-- The same through the list's other row. -/
theorem block1_value (t : Memref sig .scVector .hbm S100000x128 .f32) (T : t.view.ty.Contents (Elt F))
    (a : Memref sig .scVector .vmem S2x128 .i32) (f : a.view.ty.Contents (Elt F)) (w : S2x128.Idx → Elt F .i32)
    (b : Memref sig .scVector .vmem S128x128 .f32) (fb : b.view.ty.Contents (Elt F))
    (o : Memref sig .scVector .hbm S128x128 .f32) (fo : o.view.ty.Contents (Elt F))
    (hg : S100000x128.Gathers 0 S128x128) (hn : S128.numel = 128)
    (h : ∀ x, ((list1 a).view.read (Elt F) (a.view.writes (Elt F) f [⟨Rect.whole S2x128, w⟩]) x).toNat < 100000) (x : S128x128.Idx) :
    o.view.read (Elt F) (o.view.writes (Elt F) fo [⟨Rect.whole S128x128, ReadAs.same.apply (b.view.read (Elt F) (b.view.writes (Elt F) fb
        [⟨Rect.whole S128x128, SparseCore.gatherPayload hg ((tabAll t).view.read (Elt F) T)
          (SparseCore.rows ((list1 a).view.read (Elt F) (a.view.writes (Elt F) f [⟨Rect.whole S2x128, w⟩])) hn h)⟩]))⟩]) x
      = (tabAll t).view.read (Elt F) T (ix2 (tabRow (w (ix2 (1 : Fin 2) (x 0 : Fin 128)))) (x 1 : Fin 128)) := by
  rw [View.read_writes_whole, View.read_writes_whole]
  refine (gather_apply hg _ _ hn h x).trans ?_
  rw [list1_read a f w (x 0)]

/-- The value of row `j` of the task's block, at `(r, c)`: column `c` of the table row the task's word `(j, r)` names. -/
abbrev blockVal (t : Memref sig .scVector .hbm S100000x128 .f32) (T : t.view.ty.Contents (Elt F))
    (a : Memref sig .scVector .hbm S32x2x128 .i32) (L : grid0.Coords) (I : a.view.ty.Contents (Elt F)) (j : Fin 2) (x : S128x128.Idx) : Elt F .f32 :=
  (tabAll t).view.read (Elt F) T (ix2 (tabRow ((idxRows a L).view.read (Elt F) I (ix2 j (x 0 : Fin 128)))) (x 1 : Fin 128))

/-- A task's waits: those it entered with, and waits of no other thread's. -/
theorem waits_grow {W : Waits sig (HIx 2)} {s0 s1 s2 s3 s4 s5 s6 s7 s8 s9 : SemLoc sig} :
    ∀ p ∈ insert (s0, (default : HIx 2)) (insert (s1, default) (insert (s2, default) (insert (s3, default) (insert (s4, default) (insert (s5, default)
      (insert (s6, default) (insert (s7, default) (insert (s8, default) (insert (s9, default) W))))))))), p ∈ W ∨ p.2 = none := by
  intro p hp
  simp only [Finset.mem_insert] at hp
  rcases hp with h | h | h | h | h | h | h | h | h | h | h
  all_goals first | exact .inl h | exact .inr (h ▸ rfl)

variable [FloatOps F]

set_option maxHeartbeats 4000000 in
/-- ONE TASK. It holds a share of each table, its two rows of each list of words, its two blocks of each result, its own
    memory and its ten semaphores; it ends with the blocks holding the table rows its words name, and the rest back. -/
theorem tile_body (d : Dev nD) (L : grid0.Coords)
    (a2 : Memref sig .scVector .hbm S100000x128 .f32) (h2 : a2.IsWhole) (a3 : Memref sig .scVector .hbm S100000x128 .f32) (h3 : a3.IsWhole)
    (a4 : Memref sig .scVector .hbm S32x2x128 .i32) (h4 : a4.IsWhole) (a5 : Memref sig .scVector .hbm S32x2x128 .i32) (h5 : a5.IsWhole)
    (a6 : Memref sig .scVector .hbm S8192x128 .f32) (h6 : a6.IsWhole) (a7 : Memref sig .scVector .hbm S8192x128 .f32) (h7 : a7.IsWhole)
    (a8 : Memref sig .scVector .vmem S2x128 .i32) (h8 : a8.IsWhole) (a9 : Memref sig .scVector .vmem S2x128 .i32) (h9 : a9.IsWhole)
    (a10 : Memref sig .scVector .vmem S128x128 .f32) (h10 : a10.IsWhole) (a11 : Memref sig .scVector .vmem S128x128 .f32) (h11 : a11.IsWhole)
    (a12 : Memref sig .scVector .vmem S128x128 .f32) (h12 : a12.IsWhole) (a13 : Memref sig .scVector .vmem S128x128 .f32) (h13 : a13.IsWhole)
    (s14 s15 s16 s17 r0 r1 r2 r3 r4 r5 : DmaSems sig S_)
    (q2 q3 : PosShare TreeShare)
    (T2 : Buf (Elt F) (a2.view.loc (V d (cV L) (jV L)))) (T3 : Buf (Elt F) (a3.view.loc (V d (cV L) (jV L))))
    (I4 : Buf (Elt F) (a4.view.loc (V d (cV L) (jV L)))) (I5 : Buf (Elt F) (a5.view.loc (V d (cV L) (jV L))))
    (f60 f61 : Buf (Elt F) (a6.view.loc (V d (cV L) (jV L)))) (f70 f71 : Buf (Elt F) (a7.view.loc (V d (cV L) (jV L))))
    (f8 : Buf (Elt F) (a8.view.loc (V d (cV L) (jV L)))) (f9 : Buf (Elt F) (a9.view.loc (V d (cV L) (jV L))))
    (f10 : Buf (Elt F) (a10.view.loc (V d (cV L) (jV L)))) (f11 : Buf (Elt F) (a11.view.loc (V d (cV L) (jV L))))
    (f12 : Buf (Elt F) (a12.view.loc (V d (cV L) (jV L)))) (f13 : Buf (Elt F) (a13.view.loc (V d (cV L) (jV L))))
    (hI4 : ∀ j, ((idxRows a4 L).view.read (Elt F) I4 j).toNat < 100000) (hI5 : ∀ j, ((idxRows a5 L).view.read (Elt F) I5 j).toNat < 100000)
    (O : CellTallies nD τ sig (HIx 2)) (W : Waits sig (HIx 2)) :
    iprop((Transfers.MayWaits (V d (cV L) (jV L)) (default : HIx 2) O : sProp 𝕄)
        ∗ ((tabAll a2).view.loc (V d (cV L) (jV L)) ↦[(tabAll a2).view.set]{q2} T2) ∗ ((tabAll a3).view.loc (V d (cV L) (jV L)) ↦[(tabAll a3).view.set]{q3} T3)
        ∗ ((idxRows a4 L).view.loc (V d (cV L) (jV L)) ↦[(idxRows a4 L).view.set]{fullShare} I4) ∗ ((idxRows a5 L).view.loc (V d (cV L) (jV L)) ↦[(idxRows a5 L).view.set]{fullShare} I5)
        ∗ ((out0 a6 L).view.loc (V d (cV L) (jV L)) ↦[(out0 a6 L).view.set]{fullShare} f60) ∗ ((out1 a6 L).view.loc (V d (cV L) (jV L)) ↦[(out1 a6 L).view.set]{fullShare} f61)
        ∗ ((out0 a7 L).view.loc (V d (cV L) (jV L)) ↦[(out0 a7 L).view.set]{fullShare} f70) ∗ ((out1 a7 L).view.loc (V d (cV L) (jV L)) ↦[(out1 a7 L).view.set]{fullShare} f71)
        ∗ (a8.view.loc (V d (cV L) (jV L)) ↦[a8.view.set]{fullShare} f8) ∗ (a9.view.loc (V d (cV L) (jV L)) ↦[a9.view.set]{fullShare} f9)
        ∗ (a10.view.loc (V d (cV L) (jV L)) ↦[a10.view.set]{fullShare} f10) ∗ (a11.view.loc (V d (cV L) (jV L)) ↦[a11.view.set]{fullShare} f11)
        ∗ (a12.view.loc (V d (cV L) (jV L)) ↦[a12.view.set]{fullShare} f12) ∗ (a13.view.loc (V d (cV L) (jV L)) ↦[a13.view.set]{fullShare} f13)
        ∗ semVal (V d (cV L) (jV L), .dma s14.sem) 0 ∗ semVal (V d (cV L) (jV L), .dma s15.sem) 0 ∗ semVal (V d (cV L) (jV L), .dma s16.sem) 0 ∗ semVal (V d (cV L) (jV L), .dma s17.sem) 0
        ∗ semVal (V d (cV L) (jV L), .dma r0.sem) 0 ∗ semVal (V d (cV L) (jV L), .dma r1.sem) 0 ∗ semVal (V d (cV L) (jV L), .dma r2.sem) 0 ∗ semVal (V d (cV L) (jV L), .dma r3.sem) 0
        ∗ semVal (V d (cV L) (jV L), .dma r4.sem) 0 ∗ semVal (V d (cV L) (jV L), .dma r5.sem) 0
        ∗ owes (V d (cV L) (jV L)) O W)
      ⊢ wp frame (wpE (defs₀ (F := F)) 𝒱₀ (V d (cV L) (jV L)) none) Set.univ
          (cc0_k L a2 h2 a3 h3 a4 h4 a5 h5 a6 h6 a7 h7 a8 h8 a9 h9 a10 h10 a11 h11 a12 h12 a13 h13 s14 s15 s16 s17 r0 r1 r2 r3 r4 r5)
          fun _ => iprop(
            ((tabAll a2).view.loc (V d (cV L) (jV L)) ↦[(tabAll a2).view.set]{q2} T2) ∗ ((tabAll a3).view.loc (V d (cV L) (jV L)) ↦[(tabAll a3).view.set]{q3} T3)
            ∗ ((idxRows a4 L).view.loc (V d (cV L) (jV L)) ↦[(idxRows a4 L).view.set]{fullShare} I4) ∗ ((idxRows a5 L).view.loc (V d (cV L) (jV L)) ↦[(idxRows a5 L).view.set]{fullShare} I5)
            ∗ (∃ g, ⌜∀ x, (out0 a6 L).view.read (Elt F) g x = blockVal a2 T2 a4 L I4 0 x⌝ ∗ ((out0 a6 L).view.loc (V d (cV L) (jV L)) ↦[(out0 a6 L).view.set]{fullShare} g))
            ∗ (∃ g, ⌜∀ x, (out1 a6 L).view.read (Elt F) g x = blockVal a2 T2 a4 L I4 1 x⌝ ∗ ((out1 a6 L).view.loc (V d (cV L) (jV L)) ↦[(out1 a6 L).view.set]{fullShare} g))
            ∗ (∃ g, ⌜∀ x, (out0 a7 L).view.read (Elt F) g x = blockVal a3 T3 a5 L I5 0 x⌝ ∗ ((out0 a7 L).view.loc (V d (cV L) (jV L)) ↦[(out0 a7 L).view.set]{fullShare} g))
            ∗ (∃ g, ⌜∀ x, (out1 a7 L).view.read (Elt F) g x = blockVal a3 T3 a5 L I5 1 x⌝ ∗ ((out1 a7 L).view.loc (V d (cV L) (jV L)) ↦[(out1 a7 L).view.set]{fullShare} g))
            ∗ (∃ f, a8.view.loc (V d (cV L) (jV L)) ↦[a8.view.set]{fullShare} f)
            ∗ (∃ f, a9.view.loc (V d (cV L) (jV L)) ↦[a9.view.set]{fullShare} f)
            ∗ (∃ f, a10.view.loc (V d (cV L) (jV L)) ↦[a10.view.set]{fullShare} f)
            ∗ (∃ f, a11.view.loc (V d (cV L) (jV L)) ↦[a11.view.set]{fullShare} f)
            ∗ (∃ f, a12.view.loc (V d (cV L) (jV L)) ↦[a12.view.set]{fullShare} f)
            ∗ (∃ f, a13.view.loc (V d (cV L) (jV L)) ↦[a13.view.set]{fullShare} f)
            ∗ semVal (V d (cV L) (jV L), .dma s14.sem) 0
            ∗ semVal (V d (cV L) (jV L), .dma s15.sem) 0
            ∗ semVal (V d (cV L) (jV L), .dma s16.sem) 0
            ∗ semVal (V d (cV L) (jV L), .dma s17.sem) 0
            ∗ semVal (V d (cV L) (jV L), .dma r0.sem) 0
            ∗ semVal (V d (cV L) (jV L), .dma r1.sem) 0
            ∗ semVal (V d (cV L) (jV L), .dma r2.sem) 0
            ∗ semVal (V d (cV L) (jV L), .dma r3.sem) 0
            ∗ semVal (V d (cV L) (jV L), .dma r4.sem) 0
            ∗ semVal (V d (cV L) (jV L), .dma r5.sem) 0
            ∗ ∃ W', ⌜∀ p ∈ W', p ∈ W ∨ p.2 = none⌝ ∗ owes (V d (cV L) (jV L)) O W') := by
  rw [cc0_k_eq_skeleton]; unfold cc0_k_skel
  iintro ⟨#Hmw, H2, H3, H4, H5, H60, H61, H70, H71, H8, H9, H10, H11, H12, H13, S14, S15, S16, S17, R0, R1, R2, R3, R4, R5, HO⟩
  ihave H2 := (pointsTo_share (PosShare.mem_left_op_right q2)).1 $$ H2
  icases H2 with ⟨H2, H2b⟩
  ihave H3 := (pointsTo_share (PosShare.mem_left_op_right q3)).1 $$ H3
  icases H3 with ⟨H3, H3b⟩
  sl_exec
  have e80 := list0_lt (F := F) a8 a8.view.junk (tile_body.sl.dma0 d L a4 I4) hI4
  have e81 := list1_lt (F := F) a8 a8.view.junk (tile_body.sl.dma0 d L a4 I4) hI4
  have e90 := list0_lt (F := F) a9 a9.view.junk (tile_body.sl.dma0_1 d L a5 I5) hI5
  have e91 := list1_lt (F := F) a9 a9.view.junk (tile_body.sl.dma0_1 d L a5 I5) hI5
  sl_exec
  ihave H2 := (pointsTo_share (PosShare.mem_left_op_right q2)).2 $$ [H2 H2b]; · isplitl [H2] <;> iassumption
  ihave H3 := (pointsTo_share (PosShare.mem_left_op_right q3)).2 $$ [H3 H3b]; · isplitl [H3] <;> iassumption
  sl_step
  isplitl [H2]; · iexact H2
  isplitl [H3]; · iexact H3
  isplitl [H4]; · iexact H4
  isplitl [H5]; · iexact H5
  isplitl [H60]
  · iexists _; isplitr
    swap; · iexact H60
    ipureintro; exact fun x => block0_value a2 T2 a8 _ _ a10 f10 (out0 a6 L) f60 _ _ e80 x
  isplitl [H61]
  · iexists _; isplitr
    swap; · iexact H61
    ipureintro; exact fun x => block1_value a2 T2 a8 _ _ a11 f11 (out1 a6 L) f61 _ _ e81 x
  isplitl [H70]
  · iexists _; isplitr
    swap; · iexact H70
    ipureintro; exact fun x => block0_value a3 T3 a9 _ _ a12 f12 (out0 a7 L) f70 _ _ e90 x
  isplitl [H71]
  · iexists _; isplitr
    swap; · iexact H71
    ipureintro; exact fun x => block1_value a3 T3 a9 _ _ a13 f13 (out1 a7 L) f71 _ _ e91 x
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [S14]; · iexact S14
  isplitl [S15]; · iexact S15
  isplitl [S16]; · iexact S16
  isplitl [S17]; · iexact S17
  isplitl [R0]; · iexact R0
  isplitl [R1]; · iexact R1
  isplitl [R2]; · iexact R2
  isplitl [R3]; · iexact R3
  isplitl [R4]; · iexact R4
  isplitl [R5]; · iexact R5
  iexists _; isplitr
  swap; · iexact HO
  ipureintro; exact waits_grow

end Cert.Proof

end
-- ==== Proof.Task.lean ====
/- One task from what its call hands it to what it hands back, stated once for any buffers and used for both calls: the
   pieces of the tables, lists and results it holds, its own memory and semaphores among the subcore's, and the run. -/
module

public import proofs.«01_k».proof.Proof.Tile

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- A cast along an equation of types is injective. -/
theorem cast_inj_of {α β : Type} (h : α = β) {x y : α} (e : cast h x = cast h y) : x = y := by
  subst h; exact e

/-- Contents that a view reads alike agree on the view's elements. -/
theorem eq_on_of_read {κ : Kind} {sp : Space} {s : Shape} {e : EltTy} (v : View sig κ sp s e) (f g : v.ty.Contents (Elt F))
    (h : ∀ x, v.read (Elt F) f x = v.read (Elt F) g x) : ∀ i ∈ v.set, f i = g i := by
  intro i hi
  obtain ⟨x, -, rfl⟩ := Finset.mem_map.mp hi
  have := h x
  rw [View.read_apply, View.read_apply] at this
  exact cast_inj_of _ this

/-- Some members of a finite family taken out, in the order of a list. -/
theorem bigSep_take {M : Type} [URA M] {I : Type} [DecidableEq I] (Φ : I → sProp M) :
    ∀ (l : List I) (S : Finset I), l.Nodup → (∀ a ∈ l, a ∈ S) →
      bigSep S Φ = l.foldr (fun a P => iprop(Φ a ∗ P)) (bigSep (S \ l.toFinset) Φ)
  | [], S, _, _ => by simp
  | a :: l, S, hn, hs => by
    rw [SparseCore.bigSep_erase' (hs a List.mem_cons_self), bigSep_take Φ l (S.erase a) (List.nodup_cons.mp hn).2 (fun b hb =>
      Finset.mem_erase.mpr ⟨fun e => (List.nodup_cons.mp hn).1 (e ▸ hb), hs b (List.mem_cons_of_mem _ hb)⟩)]
    rw [List.foldr_cons, List.toFinset_cons, show S.erase a \ l.toFinset = S \ insert a l.toFinset from by ext b; simp only [Finset.mem_sdiff, Finset.mem_erase, Finset.mem_insert]; tauto]

/-- The share of a table handed to a task. -/
abbrev taskShare (L : grid0.Coords) : PosShare TreeShare := pieceOf fullShare 32 (by decide) (taskNo L)

/-- What a task holds of the arrays: a share of each table, its rows of each list of words, its two blocks of each result. -/
def taskPiece (d : Dev nD) (L : grid0.Coords)
    (a2 : Memref sig .scVector .hbm S100000x128 .f32) (a3 : Memref sig .scVector .hbm S100000x128 .f32)
    (a4 : Memref sig .scVector .hbm S32x2x128 .i32) (a5 : Memref sig .scVector .hbm S32x2x128 .i32)
    (a6 : Memref sig .scVector .hbm S8192x128 .f32) (a7 : Memref sig .scVector .hbm S8192x128 .f32)
    (T2 : Buf (Elt F) (a2.view.loc (V d (cV L) (jV L)))) (T3 : Buf (Elt F) (a3.view.loc (V d (cV L) (jV L))))
    (I4 : Buf (Elt F) (a4.view.loc (V d (cV L) (jV L)))) (I5 : Buf (Elt F) (a5.view.loc (V d (cV L) (jV L))))
    (G6 : Buf (Elt F) (a6.view.loc (V d (cV L) (jV L)))) (G7 : Buf (Elt F) (a7.view.loc (V d (cV L) (jV L)))) : sProp 𝕄 :=
  iprop(((tabAll a2).view.loc (V d (cV L) (jV L)) ↦[(tabAll a2).view.set]{taskShare L} T2) ∗ ((tabAll a3).view.loc (V d (cV L) (jV L)) ↦[(tabAll a3).view.set]{taskShare L} T3)
    ∗ ((idxRows a4 L).view.loc (V d (cV L) (jV L)) ↦[(idxRows a4 L).view.set]{fullShare} I4) ∗ ((idxRows a5 L).view.loc (V d (cV L) (jV L)) ↦[(idxRows a5 L).view.set]{fullShare} I5)
    ∗ ((out0 a6 L).view.loc (V d (cV L) (jV L)) ↦[(out0 a6 L).view.set]{fullShare} G6) ∗ ((out1 a6 L).view.loc (V d (cV L) (jV L)) ↦[(out1 a6 L).view.set]{fullShare} G6)
    ∗ ((out0 a7 L).view.loc (V d (cV L) (jV L)) ↦[(out0 a7 L).view.set]{fullShare} G7) ∗ ((out1 a7 L).view.loc (V d (cV L) (jV L)) ↦[(out1 a7 L).view.set]{fullShare} G7))

instance taskPiece_storable (d : Dev nD) (L : grid0.Coords)
    (a2 : Memref sig .scVector .hbm S100000x128 .f32) (a3 : Memref sig .scVector .hbm S100000x128 .f32)
    (a4 : Memref sig .scVector .hbm S32x2x128 .i32) (a5 : Memref sig .scVector .hbm S32x2x128 .i32)
    (a6 : Memref sig .scVector .hbm S8192x128 .f32) (a7 : Memref sig .scVector .hbm S8192x128 .f32)
    (T2 : Buf (Elt F) (a2.view.loc (V d (cV L) (jV L)))) (T3 : Buf (Elt F) (a3.view.loc (V d (cV L) (jV L))))
    (I4 : Buf (Elt F) (a4.view.loc (V d (cV L) (jV L)))) (I5 : Buf (Elt F) (a5.view.loc (V d (cV L) (jV L))))
    (G6 : Buf (Elt F) (a6.view.loc (V d (cV L) (jV L)))) (G7 : Buf (Elt F) (a7.view.loc (V d (cV L) (jV L)))) :
    BI.Storable (upEmb : UEmb _ 𝕄) (taskPiece (F := F) d L a2 a3 a4 a5 a6 a7 T2 T3 I4 I5 G6 G7) := by
  unfold taskPiece; infer_instance

/-- A task's own memory: six buffers at some contents. -/
def taskBufs (d : Dev nD) (L : grid0.Coords) (a8 a9 : Memref sig .scVector .vmem S2x128 .i32) (a10 a11 a12 a13 : Memref sig .scVector .vmem S128x128 .f32) : sProp 𝕄 :=
  iprop((∃ f, a8.view.loc (V d (cV L) (jV L)) ↦[a8.view.set]{fullShare} f) ∗ (∃ f, a9.view.loc (V d (cV L) (jV L)) ↦[a9.view.set]{fullShare} f) ∗ (∃ f, a10.view.loc (V d (cV L) (jV L)) ↦[a10.view.set]{fullShare} f) ∗ (∃ f, a11.view.loc (V d (cV L) (jV L)) ↦[a11.view.set]{fullShare} f) ∗ (∃ f, a12.view.loc (V d (cV L) (jV L)) ↦[a12.view.set]{fullShare} f) ∗ (∃ f, a13.view.loc (V d (cV L) (jV L)) ↦[a13.view.set]{fullShare} f))

/-- A task's ten semaphores at zero. -/
def taskSems (d : Dev nD) (L : grid0.Coords) (s14 s15 s16 s17 r0 r1 r2 r3 r4 r5 : DmaSems sig S_) : sProp 𝕄 :=
  iprop(semVal (V d (cV L) (jV L), .dma s14.sem) 0 ∗ semVal (V d (cV L) (jV L), .dma s15.sem) 0 ∗ semVal (V d (cV L) (jV L), .dma s16.sem) 0 ∗ semVal (V d (cV L) (jV L), .dma s17.sem) 0 ∗ semVal (V d (cV L) (jV L), .dma r0.sem) 0 ∗ semVal (V d (cV L) (jV L), .dma r1.sem) 0 ∗ semVal (V d (cV L) (jV L), .dma r2.sem) 0 ∗ semVal (V d (cV L) (jV L), .dma r3.sem) 0 ∗ semVal (V d (cV L) (jV L), .dma r4.sem) 0 ∗ semVal (V d (cV L) (jV L), .dma r5.sem) 0)

variable [FloatOps F]

set_option maxHeartbeats 1000000 in
/-- THE TASK, from its pieces with the results at anything to its pieces with the results at arrays `G6`, `G7` that hold, on
    the task's blocks, the rows its words name; the rest of the subcore's memory and semaphores rides along. -/
theorem task_run (d : Dev nD) (L : grid0.Coords)
    (a2 : Memref sig .scVector .hbm S100000x128 .f32) (a3 : Memref sig .scVector .hbm S100000x128 .f32)
    (a4 : Memref sig .scVector .hbm S32x2x128 .i32) (a5 : Memref sig .scVector .hbm S32x2x128 .i32)
    (a6 : Memref sig .scVector .hbm S8192x128 .f32) (a7 : Memref sig .scVector .hbm S8192x128 .f32)
    (h2 : a2.IsWhole) (h3 : a3.IsWhole) (h4 : a4.IsWhole) (h5 : a5.IsWhole) (h6 : a6.IsWhole) (h7 : a7.IsWhole)
    (a8 a9 : Memref sig .scVector .vmem S2x128 .i32) (a10 a11 a12 a13 : Memref sig .scVector .vmem S128x128 .f32)
    (h8 : a8.IsWhole) (h9 : a9.IsWhole) (h10 : a10.IsWhole) (h11 : a11.IsWhole) (h12 : a12.IsWhole) (h13 : a13.IsWhole)
    (s14 s15 s16 s17 r0 r1 r2 r3 r4 r5 : DmaSems sig S_)
    (T2 : Buf (Elt F) (a2.view.loc (V d (cV L) (jV L)))) (T3 : Buf (Elt F) (a3.view.loc (V d (cV L) (jV L))))
    (I4 : Buf (Elt F) (a4.view.loc (V d (cV L) (jV L)))) (I5 : Buf (Elt F) (a5.view.loc (V d (cV L) (jV L))))
    (f6 G6 : Buf (Elt F) (a6.view.loc (V d (cV L) (jV L)))) (f7 G7 : Buf (Elt F) (a7.view.loc (V d (cV L) (jV L))))
    (hI4 : ∀ j, ((idxRows a4 L).view.read (Elt F) I4 j).toNat < 100000) (hI5 : ∀ j, ((idxRows a5 L).view.read (Elt F) I5 j).toNat < 100000)
    (h60 : ∀ x, (out0 a6 L).view.read (Elt F) G6 x = blockVal a2 T2 a4 L I4 0 x) (h61 : ∀ x, (out1 a6 L).view.read (Elt F) G6 x = blockVal a2 T2 a4 L I4 1 x)
    (h70 : ∀ x, (out0 a7 L).view.read (Elt F) G7 x = blockVal a3 T3 a5 L I5 0 x) (h71 : ∀ x, (out1 a7 L).view.read (Elt F) G7 x = blockVal a3 T3 a5 L I5 1 x)
    (RB RS : sProp 𝕄) (O : CellTallies nD τ sig (HIx 2)) (W : Waits sig (HIx 2)) (hO : ∀ g, O g none = 0) :
    iprop(levAts (K (F := F)).L (K (F := F)).lev ∗ taskPiece d L a2 a3 a4 a5 a6 a7 T2 T3 I4 I5 f6 f7
        ∗ (taskBufs d L a8 a9 a10 a11 a12 a13 ∗ RB) ∗ (taskSems d L s14 s15 s16 s17 r0 r1 r2 r3 r4 r5 ∗ RS) ∗ owes (V d (cV L) (jV L)) O W)
      ⊢ wp frame (wpE (defs₀ (F := F)) 𝒱₀ (V d (cV L) (jV L)) none) Set.univ
          (cc0_k L a2 h2 a3 h3 a4 h4 a5 h5 a6 h6 a7 h7 a8 h8 a9 h9 a10 h10 a11 h11 a12 h12 a13 h13 s14 s15 s16 s17 r0 r1 r2 r3 r4 r5)
          fun _ => iprop(taskPiece d L a2 a3 a4 a5 a6 a7 T2 T3 I4 I5 G6 G7
            ∗ (taskBufs d L a8 a9 a10 a11 a12 a13 ∗ RB) ∗ (taskSems d L s14 s15 s16 s17 r0 r1 r2 r3 r4 r5 ∗ RS)
            ∗ ∃ W', ⌜∀ p ∈ W', p ∈ W ∨ p.2 = none⌝ ∗ owes (V d (cV L) (jV L)) O W') := by
  unfold taskPiece taskBufs taskSems
  iintro ⟨#Hlv, ⟨H2, H3, H4, H5, H60, H61, H70, H71⟩, ⟨⟨⟨%f8, H8⟩, ⟨%f9, H9⟩, ⟨%f10, H10⟩, ⟨%f11, H11⟩, ⟨%f12, H12⟩, ⟨%f13, H13⟩⟩, HRB⟩,
    ⟨⟨S14, S15, S16, S17, R0, R1, R2, R3, R4, R5⟩, HRS⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hwp := (tile_body d L a2 h2 a3 h3 a4 h4 a5 h5 a6 h6 a7 h7 a8 h8 a9 h9 a10 h10 a11 h11 a12 h12 a13 h13 s14 s15 s16 s17 r0 r1 r2 r3 r4 r5
      (taskShare L) (taskShare L) T2 T3 I4 I5 f6 f6 f7 f7 f8 f9 f10 f11 f12 f13 hI4 hI5 O W) $$ [Hmw H2 H3 H4 H5 H60 H61 H70 H71 H8 H9 H10 H11 H12 H13 S14 S15 S16 S17 R0 R1 R2 R3 R4 R5 HO]
  · isplitl [Hmw]; · iexact Hmw
    isplitl [H2]; · iexact H2
    isplitl [H3]; · iexact H3
    isplitl [H4]; · iexact H4
    isplitl [H5]; · iexact H5
    isplitl [H60]; · iexact H60
    isplitl [H61]; · iexact H61
    isplitl [H70]; · iexact H70
    isplitl [H71]; · iexact H71
    isplitl [H8]; · iexact H8
    isplitl [H9]; · iexact H9
    isplitl [H10]; · iexact H10
    isplitl [H11]; · iexact H11
    isplitl [H12]; · iexact H12
    isplitl [H13]; · iexact H13
    isplitl [S14]; · iexact S14
    isplitl [S15]; · iexact S15
    isplitl [S16]; · iexact S16
    isplitl [S17]; · iexact S17
    isplitl [R0]; · iexact R0
    isplitl [R1]; · iexact R1
    isplitl [R2]; · iexact R2
    isplitl [R3]; · iexact R3
    isplitl [R4]; · iexact R4
    isplitl [R5]; · iexact R5
    iexact HO
  iapply (wp_wand_r frame _ _)
  isplitl [Hwp]; · iexact Hwp
  iintro %_ ⟨H2, H3, H4, H5, ⟨%g60, %e60, H60⟩, ⟨%g61, %e61, H61⟩, ⟨%g70, %e70, H70⟩, ⟨%g71, %e71, H71⟩, H8, H9, H10, H11, H12, H13,
    S14, S15, S16, S17, R0, R1, R2, R3, R4, R5, HO⟩
  ihave H60 := (Entails.of_eq (pointsTo_congr (eq_on_of_read (out0 a6 L).view g60 _ fun x => (e60 x).trans (h60 x).symm))) $$ H60
  ihave H61 := (Entails.of_eq (pointsTo_congr (eq_on_of_read (out1 a6 L).view g61 _ fun x => (e61 x).trans (h61 x).symm))) $$ H61
  ihave H70 := (Entails.of_eq (pointsTo_congr (eq_on_of_read (out0 a7 L).view g70 _ fun x => (e70 x).trans (h70 x).symm))) $$ H70
  ihave H71 := (Entails.of_eq (pointsTo_congr (eq_on_of_read (out1 a7 L).view g71 _ fun x => (e71 x).trans (h71 x).symm))) $$ H71
  isplitl [H2 H3 H4 H5 H60 H61 H70 H71]
  · isplitl [H2]; · iexact H2
    isplitl [H3]; · iexact H3
    isplitl [H4]; · iexact H4
    isplitl [H5]; · iexact H5
    isplitl [H60]; · iexact H60
    isplitl [H61]; · iexact H61
    isplitl [H70]; · iexact H70
    iexact H71
  isplitl [H8 H9 H10 H11 H12 H13 HRB]
  · isplitr [HRB]
    · isplitl [H8]; · iexact H8
      isplitl [H9]; · iexact H9
      isplitl [H10]; · iexact H10
      isplitl [H11]; · iexact H11
      isplitl [H12]; · iexact H12
      iexact H13
    · iexact HRB
  isplitl [S14 S15 S16 S17 R0 R1 R2 R3 R4 R5 HRS]
  · isplitr [HRS]
    · isplitl [S14]; · iexact S14
      isplitl [S15]; · iexact S15
      isplitl [S16]; · iexact S16
      isplitl [S17]; · iexact S17
      isplitl [R0]; · iexact R0
      isplitl [R1]; · iexact R1
      isplitl [R2]; · iexact R2
      isplitl [R3]; · iexact R3
      isplitl [R4]; · iexact R4
      iexact R5
    · iexact HRS
  iexact HO

end Cert.Proof

end
-- ==== Proof.Calls.lean ====
/- The two SparseCore calls: what their handshakes carry, how a call's arrays split into its thirty-two tasks' pieces and
   join again, and each task's obligation. -/
module

public import proofs.«01_k».proof.Proof.Task

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- The coordinates of subcore `s` of SparseCore `c`. -/
def coordsV (c : Fin 2) (s : Fin 16) : grid0.Coords :=
  fun | 0 => c | 1 => s | ⟨_ + 2, h⟩ => absurd h (Nat.not_lt.2 (Nat.le_add_left _ _))

theorem taskNo_coordsV (c : Fin 2) (s : Fin 16) : (taskNo (coordsV c s)).val = 2 * s.val + c.val := rfl

/-! ## The rows of the lists and the blocks of the results, as sets of indices -/

/-- A task's rows of a list. -/
abbrev rowsSet (L : grid0.Coords) : Finset S32x2x128.Idx := (Rect.unit (s := S32x2x128) (k0_off1 L) S1x2x128.size (k0_off1_inb L)).set
/-- A task's first block of a result. -/
abbrev blk0Set (L : grid0.Coords) : Finset S8192x128.Idx := (Rect.unit (s := S8192x128) (k0_off2 L 0#32) S128x128.size (k0_off2_inb L 0)).set
/-- A task's other block of a result. -/
abbrev blk1Set (L : grid0.Coords) : Finset S8192x128.Idx := (Rect.unit (s := S8192x128) (k0_off2 L 128#32) S128x128.size (k0_off2_inb L 1)).set

theorem mem_rowsSet (L : grid0.Coords) (x : S32x2x128.Idx) : x ∈ rowsSet L ↔ (x 0).val = (taskNo L).val := by
  have hemb : ∀ y : S1x2x128.Idx, (Rect.unit (s := S32x2x128) (k0_off1 L) S1x2x128.size (k0_off1_inb L)).emb y = ix3 (taskNo L) (y 1 : Fin 2) (y 2 : Fin 128) := by
    intro y
    have h0 : (y 0).val < 1 := (y 0).isLt
    funext b
    apply Fin.ext
    rw [Rect.emb_apply]
    match b with
    | ⟨0, _⟩ =>
      show k0_off1 L 0 + 1 * (y 0).val = 2 * (L 1).val + (L 0).val
      rw [k0_off1_eq]; show 2 * (L 1).val + (L 0).val + 1 * (y 0).val = _; omega
    | ⟨1, _⟩ => show k0_off1 L 1 + 1 * (y 1).val = (y 1).val; rw [k0_off1_eq]; simp
    | ⟨2, _⟩ => show k0_off1 L 2 + 1 * (y 2).val = (y 2).val; rw [k0_off1_eq]; simp
  rw [rowsSet, ← Rect.map_emb_univ, Finset.mem_map]
  constructor
  · rintro ⟨y, -, rfl⟩; rw [hemb]
  · intro h
    refine ⟨ix3 (0 : Fin 1) (x 1 : Fin 2) (x 2 : Fin 128), Finset.mem_univ _, (hemb _).trans ?_⟩
    funext b
    match b with
    | ⟨0, _⟩ => exact Fin.ext h.symm
    | ⟨1, _⟩ => rfl
    | ⟨2, _⟩ => rfl

theorem mem_blk0Set (L : grid0.Coords) (x : S8192x128.Idx) : x ∈ blk0Set L ↔ (x 0).val / 128 = 2 * (taskNo L).val := by
  rw [blk0Set, ← Rect.map_emb_univ, Finset.mem_map]
  constructor
  · rintro ⟨y, -, rfl⟩
    have h : (y 0).val < 128 := (y 0).isLt
    rw [out0_emb]; show (256 * (taskNo L).val + (y 0).val) / 128 = _; omega
  · intro h
    refine ⟨ix2 (⟨(x 0).val % 128, Nat.mod_lt _ (by decide)⟩ : Fin 128) (x 1 : Fin 128), Finset.mem_univ _, (out0_emb L _).trans ?_⟩
    funext b
    match b with
    | ⟨0, _⟩ => refine Fin.ext ?_; show 256 * (taskNo L).val + (x 0).val % 128 = (x 0).val; omega
    | ⟨1, _⟩ => rfl

theorem mem_blk1Set (L : grid0.Coords) (x : S8192x128.Idx) : x ∈ blk1Set L ↔ (x 0).val / 128 = 2 * (taskNo L).val + 1 := by
  rw [blk1Set, ← Rect.map_emb_univ, Finset.mem_map]
  constructor
  · rintro ⟨y, -, rfl⟩
    have h : (y 0).val < 128 := (y 0).isLt
    rw [out1_emb]; show (256 * (taskNo L).val + 128 + (y 0).val) / 128 = _; omega
  · intro h
    refine ⟨ix2 (⟨(x 0).val % 128, Nat.mod_lt _ (by decide)⟩ : Fin 128) (x 1 : Fin 128), Finset.mem_univ _, (out1_emb L _).trans ?_⟩
    funext b
    match b with
    | ⟨0, _⟩ => refine Fin.ext ?_; show 256 * (taskNo L).val + 128 + (x 0).val % 128 = (x 0).val; omega
    | ⟨1, _⟩ => rfl

/-- Tasks count apart: their numbers differ. -/
theorem taskNo_inj {p p' : Fin 2 × Fin 16} (h : (taskNo (coordsV p.1 p.2)).val = (taskNo (coordsV p'.1 p'.2)).val) : p = p' := by
  rw [taskNo_coordsV, taskNo_coordsV] at h
  have h1 := p.1.isLt; have h2 := p'.1.isLt
  exact Prod.ext (Fin.ext (by omega)) (Fin.ext (by omega))

/-- A whole list is its tasks' rows. -/
theorem rows_cover : (Finset.univ : Finset (Fin 2 × Fin 16)).biUnion (fun p => rowsSet (coordsV p.1 p.2)) = Finset.univ := by
  ext x
  simp only [Finset.mem_biUnion, Finset.mem_univ, true_and, iff_true]
  have hx : (x 0).val < 32 := (x 0).isLt
  refine ⟨(⟨(x 0).val % 2, by omega⟩, ⟨(x 0).val / 2, by omega⟩), (mem_rowsSet _ x).mpr ?_⟩
  rw [taskNo_coordsV]; show (x 0).val = 2 * ((x 0).val / 2) + (x 0).val % 2; omega

theorem rows_disjoint : ∀ p ∈ (Finset.univ : Finset (Fin 2 × Fin 16)), ∀ p' ∈ (Finset.univ : Finset (Fin 2 × Fin 16)), p ≠ p' →
    Disjoint (rowsSet (coordsV p.1 p.2)) (rowsSet (coordsV p'.1 p'.2)) := by
  intro p _ p' _ hp
  rw [Finset.disjoint_left]
  intro x hx hx'
  exact hp (taskNo_inj (((mem_rowsSet _ x).mp hx).symm.trans ((mem_rowsSet _ x).mp hx')))

/-- A task's two blocks. -/
abbrev blkSet (p : Fin 2 × Fin 16) : Finset S8192x128.Idx := blk0Set (coordsV p.1 p.2) ∪ blk1Set (coordsV p.1 p.2)

theorem mem_blkSet (p : Fin 2 × Fin 16) (x : S8192x128.Idx) : x ∈ blkSet p ↔ (x 0).val / 256 = (taskNo (coordsV p.1 p.2)).val := by
  rw [Finset.mem_union, mem_blk0Set, mem_blk1Set]; omega

/-- A whole result is its tasks' blocks. -/
theorem blks_cover : (Finset.univ : Finset (Fin 2 × Fin 16)).biUnion blkSet = Finset.univ := by
  ext x
  simp only [Finset.mem_biUnion, Finset.mem_univ, true_and, iff_true]
  have hx : (x 0).val < 8192 := (x 0).isLt
  refine ⟨(⟨(x 0).val / 256 % 2, by omega⟩, ⟨(x 0).val / 256 / 2, by omega⟩), (mem_blkSet _ x).mpr ?_⟩
  rw [taskNo_coordsV]; show (x 0).val / 256 = 2 * ((x 0).val / 256 / 2) + (x 0).val / 256 % 2; omega

theorem blks_disjoint : ∀ p ∈ (Finset.univ : Finset (Fin 2 × Fin 16)), ∀ p' ∈ (Finset.univ : Finset (Fin 2 × Fin 16)), p ≠ p' → Disjoint (blkSet p) (blkSet p') := by
  intro p _ p' _ hp
  rw [Finset.disjoint_left]
  intro x hx hx'
  exact hp (taskNo_inj (((mem_blkSet _ x).mp hx).symm.trans ((mem_blkSet _ x).mp hx')))

theorem blk01_disjoint (L : grid0.Coords) : Disjoint (blk0Set L) (blk1Set L) := by
  rw [Finset.disjoint_left]
  intro x hx hx'
  rw [mem_blk0Set] at hx; rw [mem_blk1Set] at hx'; omega

/-- The table as the gather addresses it is the whole table. -/
theorem tabSet_univ : (Rect.unit (s := S100000x128) ![0, 0] S100000x128.size inb_S100000x128_S100000x128_0_0).set = Finset.univ := by
  ext x
  simp only [Finset.mem_univ, iff_true]
  rw [← Rect.map_emb_univ, Finset.mem_map]
  refine ⟨x, Finset.mem_univ _, ?_⟩
  funext b
  apply Fin.ext
  rw [Rect.emb_apply]
  match b with
  | ⟨0, _⟩ => show 0 + 1 * (x 0).val = (x 0).val; omega
  | ⟨1, _⟩ => show 0 + 1 * (x 1).val = (x 1).val; omega

/-- The thirty-two tasks, by SparseCore and subcore. -/
def taskEquiv : Fin 2 × Fin 16 ≃ Fin 32 where
  toFun p := ⟨2 * p.2.val + p.1.val, by omega⟩
  invFun w := (⟨w.val % 2, by omega⟩, ⟨w.val / 2, by omega⟩)
  left_inv p := Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

/-- A buffer held whole is held at the tasks' shares at once. -/
theorem shares_split {ℓ : Loc nD τ sig} (I : Finset (Idx ℓ)) (f : Buf (Elt F) ℓ) :
    (ℓ ↦[I]{fullShare} f : sProp 𝕄) = bigSep Finset.univ fun p : Fin 2 × Fin 16 => ℓ ↦[I]{taskShare (coordsV p.1 p.2)} f := by
  rw [pointsTo_piecesOf I f (by decide : 0 < 32) fullShare, bigSep_univ_equiv taskEquiv]
  rfl

/-! ## What the handshakes carry -/

/-- The words of call `q` that an argument of row numbers holds: word `(w, j, r)` is entry `8192 q + 256 w + 128 j + r`. -/
def wordsOf (q : Fin 2) (a : S16384.Idx → BitVec 32) : S32x2x128.Idx → BitVec 32 := fun x =>
  a (ix1 (⟨8192 * q.val + 256 * (x 0).val + 128 * (x 1).val + (x 2).val, by
    have h0 : (x 0).val < 32 := (x 0).isLt
    have h1 : (x 1).val < 2 := (x 1).isLt
    have h2 : (x 2).val < 128 := (x 2).isLt
    have hq := q.isLt
    omega⟩ : Fin 16384))

variable (m : (ℓ : Loc nD τ sig) → Buf (Elt F) ℓ)

/-- A TensorCore's array. -/
abbrev arr (d : Dev nD) (b : Ref sig .tc) : Loc nD τ sig := (T d : Thread nD τ).loc b

/-- A task's piece of call 0, its results at `G0`, `G1`. -/
abbrev piece0 (d : Dev nD) (L : grid0.Coords) (G0 : Buf (Elt F) (arr d main_v8_0)) (G1 : Buf (Elt F) (arr d main_v8_1)) : sProp 𝕄 :=
  taskPiece d L (Memref.whole main_arg2_scv) (Memref.whole main_arg3_scv) (Memref.whole main_v5_scv) (Memref.whole main_v7_scv)
    (Memref.whole main_v8_0_scv) (Memref.whole main_v8_1_scv) (m (arr d main_arg2)) (m (arr d main_arg3))
    (wordsOf 0 (m (arr d main_arg0))) (wordsOf 0 (m (arr d main_arg1))) G0 G1
/-- A task's piece of call 1, its results at `G0`, `G1`. -/
abbrev piece1 (d : Dev nD) (L : grid0.Coords) (G0 : Buf (Elt F) (arr d main_v13_0)) (G1 : Buf (Elt F) (arr d main_v13_1)) : sProp 𝕄 :=
  taskPiece d L (Memref.whole main_arg2_scv) (Memref.whole main_arg3_scv) (Memref.whole main_v10_scv) (Memref.whole main_v12_scv)
    (Memref.whole main_v13_0_scv) (Memref.whole main_v13_1_scv) (m (arr d main_arg2)) (m (arr d main_arg3))
    (wordsOf 1 (m (arr d main_arg0))) (wordsOf 1 (m (arr d main_arg1))) G0 G1

/-- The rows of the first table that the words of call `q` name, and -/
abbrev rowsU (q : Fin 2) (d : Dev nD) : S8192x128.Idx → Elt F .f32 := gathered (m (arr d main_arg2)) (wordsOf q (m (arr d main_arg0)))
/-- the rows of the second. -/
abbrev rowsI (q : Fin 2) (d : Dev nD) : S8192x128.Idx → Elt F .f32 := gathered (m (arr d main_arg3)) (wordsOf q (m (arr d main_arg1)))

/-- What a task of call `q` is handed: its piece, the results at the launch contents; -/
def goP (d : Dev nD) (L : grid0.Coords) : Fin 2 → sProp 𝕄
  | 0 => piece0 m d L (m (arr d main_v8_0)) (m (arr d main_v8_1))
  | 1 => piece1 m d L (m (arr d main_v13_0)) (m (arr d main_v13_1))
/-- what it hands back: the same piece, the results at the gathered rows. -/
def tdP (d : Dev nD) (L : grid0.Coords) : Fin 2 → sProp 𝕄
  | 0 => piece0 m d L (rowsU m 0 d) (rowsI m 0 d)
  | 1 => piece1 m d L (rowsU m 1 d) (rowsI m 1 d)

instance goP_storable (d : Dev nD) (L : grid0.Coords) (q : Fin 2) : BI.Storable (upEmb : UEmb _ 𝕄) (goP m d L q) :=
  match q with
  | 0 => taskPiece_storable d L _ _ _ _ _ _ _ _ _ _ _ _
  | 1 => taskPiece_storable d L _ _ _ _ _ _ _ _ _ _ _ _
instance tdP_storable (d : Dev nD) (L : grid0.Coords) (q : Fin 2) : BI.Storable (upEmb : UEmb _ 𝕄) (tdP m d L q) :=
  match q with
  | 0 => taskPiece_storable d L _ _ _ _ _ _ _ _ _ _ _ _
  | 1 => taskPiece_storable d L _ _ _ _ _ _ _ _ _ _ _ _

theorem nCore_eq : ∀ q : Fin 2, (K (F := F)).nCore q = 2 := fun | 0 => rfl | 1 => rfl
theorem nSub_eq : ∀ q : Fin 2, (K (F := F)).nSub q = 16 := fun | 0 => rfl | 1 => rfl

/-- The coordinates of a task of call `q`. -/
abbrev coordsQ (q : Fin 2) (c : Fin ((K (F := F)).nCore q)) (i : Fin ((K (F := F)).nSub q)) : grid0.Coords :=
  coordsV (c.cast (nCore_eq q)) (i.cast (nSub_eq q))

/-- A call hands each SparseCore its sixteen tasks' pieces and takes them back with the results written. -/
def P : (K (F := F)).Pay (nD := nD) (Val := Elt F) (Name := ℕ) (U := UU) where
  st := fun q d c => bigSep Finset.univ fun i => goP m d (coordsQ (F := F) q c i) q
  dn := fun q d c => bigSep Finset.univ fun i => tdP m d (coordsQ (F := F) q c i) q
  go := fun q d c i => goP m d (coordsQ (F := F) q c i) q
  td := fun q d c i => tdP m d (coordsQ (F := F) q c i) q
  x := fun _ _ => iprop(emp)

instance P_storable : (P (F := F) m).IsStorable where
  st q d c := (inferInstance : BI.Storable (upEmb : UEmb _ 𝕄) (bigSep Finset.univ fun i => goP m d (coordsQ (F := F) q c i) q))
  dn q d c := (inferInstance : BI.Storable (upEmb : UEmb _ 𝕄) (bigSep Finset.univ fun i => tdP m d (coordsQ (F := F) q c i) q))
  go q d c i := (inferInstance : BI.Storable (upEmb : UEmb _ 𝕄) (goP m d (coordsQ (F := F) q c i) q))
  td q d c i := (inferInstance : BI.Storable (upEmb : UEmb _ 𝕄) (tdP m d (coordsQ (F := F) q c i) q))

/-- A SparseCore's share of a call is its tasks' already. -/
theorem vecSplit (q : Fin 2) : (K (F := F)).VecSplit' (P m) q := by
  intro d c
  show (bigSep Finset.univ fun i => goP m d (coordsQ (F := F) q c i) q) ⊢ |={Set.univ}=> iprop(
      (bigSep Finset.univ fun i => goP m d (coordsQ (F := F) q c i) q)
      ∗ ((bigSep Finset.univ fun i => tdP m d (coordsQ (F := F) q c i) q) -∗ (bigSep Finset.univ fun i => tdP m d (coordsQ (F := F) q c i) q)))
  iintro H; imodintro
  isplitl [H]; · iexact H
  iintro H; iexact H

end Cert.Proof

end
-- ==== Proof.Obls.lean ====
/- Each task's obligation to its call, and the split of a call's arrays into its thirty-two tasks' pieces. -/
module

public import proofs.«01_k».proof.Proof.Calls

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- Pieces held side by side regroup. -/
theorem star_assoc (P Q R : sProp 𝕄) : iprop((P ∗ Q) ∗ R) = iprop(P ∗ Q ∗ R) := Idealize.SL.BI.equiv_iff.mp ⟨Idealize.SL.BI.sep_assoc, Idealize.SL.BI.sep_assoc'⟩
/-- Nothing held beside a piece is no more than the piece. -/
theorem emp_star (P : sProp 𝕄) : iprop(emp ∗ P) = P := Idealize.SL.BI.equiv_iff.mp BI.emp_sep

/-! ## A subcore's own memory and semaphores -/

/-- Some of a subcore's own buffers taken out. -/
theorem ownBufs_take (d : Dev nD) (c : Fin τ.nSC) (j : Fin τ.nSub) (l : List (Ref sig .scVector)) (hn : l.Nodup)
    (ho : ∀ b ∈ l, ((Proc.scVector c j : Proc τ).devRef b).owner = .proc (.scVector c j)) :
    ∃ R : sProp 𝕄, ownBufs (V d c j) = l.foldr (fun b P => iprop((∃ f, (V d c j : Thread nD τ).loc b ↦{fullShare} f) ∗ P)) R := by
  unfold SparseCore.Cfg.ownBufs
  have h := bigSep_take (fun b : DevRef τ sig => (iprop(∃ f, ((d, b) : Loc nD τ sig) ↦{fullShare} f) : sProp 𝕄)) (l.map (Proc.scVector c j : Proc τ).devRef)
    (ownRefs (Proc.scVector c j : Proc τ)) (hn.map (Proc.devRef_injective _)) (fun a ha => by
      obtain ⟨b, hb, rfl⟩ := List.mem_map.mp ha
      exact SparseCore.Cfg.mem_ownRefs_of_owner (p := Proc.scVector c j) (ho b hb))
  rw [List.foldr_map] at h
  exact ⟨_, h⟩

/-- Some of a subcore's own semaphores taken out. -/
theorem ownSems_take (d : Dev nD) (c : Fin τ.nSC) (j : Fin τ.nSub) (l : List (SemLoc sig)) (hn : l.Nodup)
    (ho : ∀ s ∈ l, s.isScoped .scVector = true) :
    ∃ R : sProp 𝕄, ownSems0 (V d c j) = l.foldr (fun s P => iprop(semVal (V d c j, s) 0 ∗ P)) R := by
  unfold SparseCore.Cfg.ownSems0
  have h := bigSep_take (fun g : GSem nD τ sig => (semVal g 0 : sProp 𝕄)) (l.map fun s => ((V d c j, s) : GSem nD τ sig))
    (ownCells (V d c j)) (hn.map fun _ _ e => (Prod.mk.inj e).2) (fun a ha => by
      obtain ⟨s, hs, rfl⟩ := List.mem_map.mp ha
      exact (mem_ownCells (g := ((V d c j, s) : GSem nD τ sig))).mpr ⟨rfl, ho s hs⟩)
  rw [List.foldr_map] at h
  exact ⟨_, h⟩

/-- A buffer seen whole. -/
theorem ex_whole (d : Dev nD) (c : Fin τ.nSC) (j : Fin τ.nSub) (b : Ref sig .scVector) :
    (iprop(∃ f, (Memref.whole b).view.loc (V d c j) ↦[(Memref.whole b).view.set]{fullShare} f) : sProp 𝕄) = iprop(∃ f, (V d c j : Thread nD τ).loc b ↦{fullShare} f) := by
  rw [show (Memref.whole b).view.set = Finset.univ from View.set_whole b]

/-- A subcore's memory is call 0's six scratch buffers and a rest. -/
theorem ownBufs_0 (d : Dev nD) (L : grid0.Coords) : ∃ R : sProp 𝕄, ownBufs (V d (cV L) (jV L))
    = iprop(taskBufs d L (Memref.whole cc0_scratch0) (Memref.whole cc0_scratch1) (Memref.whole cc0_scratch2) (Memref.whole cc0_scratch3) (Memref.whole cc0_scratch4) (Memref.whole cc0_scratch5) ∗ R) := by
  obtain ⟨R, h⟩ := ownBufs_take (F := F) d (cV L) (jV L) [cc0_scratch0, cc0_scratch1, cc0_scratch2, cc0_scratch3, cc0_scratch4, cc0_scratch5]
    (by decide) (by intro b hb; fin_cases hb <;> rfl)
  refine ⟨R, h.trans ?_⟩
  simp only [List.foldr_cons, List.foldr_nil, ← ex_whole]
  unfold taskBufs
  simp only [star_assoc]

/-- A subcore's memory is call 1's six scratch buffers and a rest. -/
theorem ownBufs_1 (d : Dev nD) (L : grid0.Coords) : ∃ R : sProp 𝕄, ownBufs (V d (cV L) (jV L))
    = iprop(taskBufs d L (Memref.whole cc1_scratch0) (Memref.whole cc1_scratch1) (Memref.whole cc1_scratch2) (Memref.whole cc1_scratch3) (Memref.whole cc1_scratch4) (Memref.whole cc1_scratch5) ∗ R) := by
  obtain ⟨R, h⟩ := ownBufs_take (F := F) d (cV L) (jV L) [cc1_scratch0, cc1_scratch1, cc1_scratch2, cc1_scratch3, cc1_scratch4, cc1_scratch5]
    (by decide) (by intro b hb; fin_cases hb <;> rfl)
  refine ⟨R, h.trans ?_⟩
  simp only [List.foldr_cons, List.foldr_nil, ← ex_whole]
  unfold taskBufs
  simp only [star_assoc]

/-- A subcore's semaphores are call 0's ten and a rest. -/
theorem ownSems_0 (d : Dev nD) (L : grid0.Coords) : ∃ R : sProp 𝕄, ownSems0 (V d (cV L) (jV L))
    = iprop(taskSems d L cc0_scratch6 cc0_scratch7 cc0_scratch8 cc0_scratch9 cc0_scoped0 cc0_scoped1 cc0_scoped2 cc0_scoped3 cc0_scoped4 cc0_scoped5 ∗ R) := by
  obtain ⟨R, h⟩ := ownSems_take (F := F) d (cV L) (jV L) [.dma cc0_scratch6.sem, .dma cc0_scratch7.sem, .dma cc0_scratch8.sem, .dma cc0_scratch9.sem, .dma cc0_scoped0.sem, .dma cc0_scoped1.sem, .dma cc0_scoped2.sem, .dma cc0_scoped3.sem, .dma cc0_scoped4.sem, .dma cc0_scoped5.sem]
    (by decide +kernel) (by decide +kernel)
  refine ⟨R, h.trans ?_⟩
  simp only [List.foldr_cons, List.foldr_nil]
  unfold taskSems
  simp only [star_assoc]

/-- A subcore's semaphores are call 1's ten and a rest. -/
theorem ownSems_1 (d : Dev nD) (L : grid0.Coords) : ∃ R : sProp 𝕄, ownSems0 (V d (cV L) (jV L))
    = iprop(taskSems d L cc1_scratch6 cc1_scratch7 cc1_scratch8 cc1_scratch9 cc1_scoped0 cc1_scoped1 cc1_scoped2 cc1_scoped3 cc1_scoped4 cc1_scoped5 ∗ R) := by
  obtain ⟨R, h⟩ := ownSems_take (F := F) d (cV L) (jV L) [.dma cc1_scratch6.sem, .dma cc1_scratch7.sem, .dma cc1_scratch8.sem, .dma cc1_scratch9.sem, .dma cc1_scoped0.sem, .dma cc1_scoped1.sem, .dma cc1_scoped2.sem, .dma cc1_scoped3.sem, .dma cc1_scoped4.sem, .dma cc1_scoped5.sem]
    (by decide +kernel) (by decide +kernel)
  refine ⟨R, h.trans ?_⟩
  simp only [List.foldr_cons, List.foldr_nil]
  unfold taskSems
  simp only [star_assoc]

/-! ## A call's arrays as its tasks' pieces -/

variable (m : (ℓ : Loc nD τ sig) → Buf (Elt F) ℓ)

/-- Thirty-two tasks' pieces, from the arrays whole: each table at the tasks' shares, each list by its rows, each result by
    its blocks. -/
theorem pieces_join (ℓ2 ℓ3 ℓ4 ℓ5 ℓ6 ℓ7 : Loc nD τ sig) (T2 : Buf (Elt F) ℓ2) (T3 : Buf (Elt F) ℓ3) (I4 : Buf (Elt F) ℓ4) (I5 : Buf (Elt F) ℓ5)
    (G6 : Buf (Elt F) ℓ6) (G7 : Buf (Elt F) ℓ7)
    (S4 : grid0.Coords → Finset (Idx ℓ4)) (S5 : grid0.Coords → Finset (Idx ℓ5)) (B60 B61 : grid0.Coords → Finset (Idx ℓ6)) (B70 B71 : grid0.Coords → Finset (Idx ℓ7))
    (h4 : ∀ p ∈ (Finset.univ : Finset (Fin 2 × Fin 16)), ∀ p' ∈ (Finset.univ : Finset (Fin 2 × Fin 16)), p ≠ p' → Disjoint (S4 (coordsV p.1 p.2)) (S4 (coordsV p'.1 p'.2)))
    (c4 : (Finset.univ : Finset (Fin 2 × Fin 16)).biUnion (fun p => S4 (coordsV p.1 p.2)) = Finset.univ)
    (h5 : ∀ p ∈ (Finset.univ : Finset (Fin 2 × Fin 16)), ∀ p' ∈ (Finset.univ : Finset (Fin 2 × Fin 16)), p ≠ p' → Disjoint (S5 (coordsV p.1 p.2)) (S5 (coordsV p'.1 p'.2)))
    (c5 : (Finset.univ : Finset (Fin 2 × Fin 16)).biUnion (fun p => S5 (coordsV p.1 p.2)) = Finset.univ)
    (h6 : ∀ p ∈ (Finset.univ : Finset (Fin 2 × Fin 16)), ∀ p' ∈ (Finset.univ : Finset (Fin 2 × Fin 16)), p ≠ p' →
      Disjoint (B60 (coordsV p.1 p.2) ∪ B61 (coordsV p.1 p.2)) (B60 (coordsV p'.1 p'.2) ∪ B61 (coordsV p'.1 p'.2)))
    (c6 : (Finset.univ : Finset (Fin 2 × Fin 16)).biUnion (fun p => B60 (coordsV p.1 p.2) ∪ B61 (coordsV p.1 p.2)) = Finset.univ)
    (d6 : ∀ L, Disjoint (B60 L) (B61 L))
    (h7 : ∀ p ∈ (Finset.univ : Finset (Fin 2 × Fin 16)), ∀ p' ∈ (Finset.univ : Finset (Fin 2 × Fin 16)), p ≠ p' →
      Disjoint (B70 (coordsV p.1 p.2) ∪ B71 (coordsV p.1 p.2)) (B70 (coordsV p'.1 p'.2) ∪ B71 (coordsV p'.1 p'.2)))
    (c7 : (Finset.univ : Finset (Fin 2 × Fin 16)).biUnion (fun p => B70 (coordsV p.1 p.2) ∪ B71 (coordsV p.1 p.2)) = Finset.univ)
    (d7 : ∀ L, Disjoint (B70 L) (B71 L)) :
    (bigSep Finset.univ fun c : Fin 2 => bigSep Finset.univ fun s : Fin 16 => (iprop((ℓ2 ↦{taskShare (coordsV c s)} T2) ∗ (ℓ3 ↦{taskShare (coordsV c s)} T3)
        ∗ (ℓ4 ↦[S4 (coordsV c s)]{fullShare} I4) ∗ (ℓ5 ↦[S5 (coordsV c s)]{fullShare} I5)
        ∗ (ℓ6 ↦[B60 (coordsV c s)]{fullShare} G6) ∗ (ℓ6 ↦[B61 (coordsV c s)]{fullShare} G6)
        ∗ (ℓ7 ↦[B70 (coordsV c s)]{fullShare} G7) ∗ (ℓ7 ↦[B71 (coordsV c s)]{fullShare} G7)) : sProp 𝕄))
      = iprop((ℓ2 ↦{fullShare} T2) ∗ (ℓ3 ↦{fullShare} T3) ∗ (ℓ4 ↦{fullShare} I4) ∗ (ℓ5 ↦{fullShare} I5) ∗ (ℓ6 ↦{fullShare} G6) ∗ (ℓ7 ↦{fullShare} G7)) := by
  have e6 : ∀ L, (iprop((ℓ6 ↦[B60 L]{fullShare} G6) ∗ (ℓ6 ↦[B61 L]{fullShare} G6)) : sProp 𝕄) = ℓ6 ↦[B60 L ∪ B61 L]{fullShare} G6 := fun L => Entails.antisymm (pointsTo_union (d6 L)).2 (pointsTo_union (d6 L)).1
  have e7 : ∀ L, (iprop((ℓ7 ↦[B70 L]{fullShare} G7) ∗ (ℓ7 ↦[B71 L]{fullShare} G7)) : sProp 𝕄) = ℓ7 ↦[B70 L ∪ B71 L]{fullShare} G7 := fun L => Entails.antisymm (pointsTo_union (d7 L)).2 (pointsTo_union (d7 L)).1
  rw [← bigSep_univ_prod (fun p : Fin 2 × Fin 16 => (iprop((ℓ2 ↦{taskShare (coordsV p.1 p.2)} T2) ∗ (ℓ3 ↦{taskShare (coordsV p.1 p.2)} T3)
        ∗ (ℓ4 ↦[S4 (coordsV p.1 p.2)]{fullShare} I4) ∗ (ℓ5 ↦[S5 (coordsV p.1 p.2)]{fullShare} I5)
        ∗ (ℓ6 ↦[B60 (coordsV p.1 p.2)]{fullShare} G6) ∗ (ℓ6 ↦[B61 (coordsV p.1 p.2)]{fullShare} G6)
        ∗ (ℓ7 ↦[B70 (coordsV p.1 p.2)]{fullShare} G7) ∗ (ℓ7 ↦[B71 (coordsV p.1 p.2)]{fullShare} G7)) : sProp 𝕄))]
  rw [bigSep_sep', bigSep_sep', bigSep_sep', bigSep_sep', ← shares_split, ← shares_split, ← pointsTo_biUnion Finset.univ _ h4, ← pointsTo_biUnion Finset.univ _ h5, c4, c5]
  simp only [e7]
  simp only [← star_assoc, e6]
  rw [bigSep_sep', ← pointsTo_biUnion Finset.univ _ h6, ← pointsTo_biUnion Finset.univ _ h7, c6, c7]
  simp only [star_assoc]

theorem pts_set {ℓ : Loc nD τ sig} {I J : Finset (Idx ℓ)} (h : I = J) (q : PosShare TreeShare) (f : Buf (Elt F) ℓ) :
    (ℓ ↦[I]{q} f : sProp 𝕄) = ℓ ↦[J]{q} f := by rw [h]

theorem piece0_eq (d : Dev nD) (L : grid0.Coords) (G0 : Buf (Elt F) (arr d main_v8_0)) (G1 : Buf (Elt F) (arr d main_v8_1)) :
    (piece0 m d L G0 G1 : sProp 𝕄) = iprop((arr d main_arg2 ↦{taskShare L} m (arr d main_arg2)) ∗ (arr d main_arg3 ↦{taskShare L} m (arr d main_arg3))
        ∗ (arr d main_v5 ↦[rowsSet L]{fullShare} wordsOf 0 (m (arr d main_arg0))) ∗ (arr d main_v7 ↦[rowsSet L]{fullShare} wordsOf 0 (m (arr d main_arg1)))
        ∗ (arr d main_v8_0 ↦[blk0Set L]{fullShare} G0) ∗ (arr d main_v8_0 ↦[blk1Set L]{fullShare} G0)
        ∗ (arr d main_v8_1 ↦[blk0Set L]{fullShare} G1) ∗ (arr d main_v8_1 ↦[blk1Set L]{fullShare} G1)) := by
  unfold piece0 taskPiece
  exact congrArg₂ _ (pts_set ((View.set_slice_whole main_arg2_scv _).trans tabSet_univ) _ _)
    (congrArg₂ _ (pts_set ((View.set_slice_whole main_arg3_scv _).trans tabSet_univ) _ _)
    (congrArg₂ _ (pts_set ((View.set_reshape _ _).trans (View.set_slice_whole main_v5_scv _)) _ _)
    (congrArg₂ _ (pts_set ((View.set_reshape _ _).trans (View.set_slice_whole main_v7_scv _)) _ _)
    (congrArg₂ _ (pts_set (View.set_slice_whole main_v8_0_scv _) _ _) (congrArg₂ _ (pts_set (View.set_slice_whole main_v8_0_scv _) _ _)
    (congrArg₂ _ (pts_set (View.set_slice_whole main_v8_1_scv _) _ _) (pts_set (View.set_slice_whole main_v8_1_scv _) _ _)))))))

theorem piece1_eq (d : Dev nD) (L : grid0.Coords) (G0 : Buf (Elt F) (arr d main_v13_0)) (G1 : Buf (Elt F) (arr d main_v13_1)) :
    (piece1 m d L G0 G1 : sProp 𝕄) = iprop((arr d main_arg2 ↦{taskShare L} m (arr d main_arg2)) ∗ (arr d main_arg3 ↦{taskShare L} m (arr d main_arg3))
        ∗ (arr d main_v10 ↦[rowsSet L]{fullShare} wordsOf 1 (m (arr d main_arg0))) ∗ (arr d main_v12 ↦[rowsSet L]{fullShare} wordsOf 1 (m (arr d main_arg1)))
        ∗ (arr d main_v13_0 ↦[blk0Set L]{fullShare} G0) ∗ (arr d main_v13_0 ↦[blk1Set L]{fullShare} G0)
        ∗ (arr d main_v13_1 ↦[blk0Set L]{fullShare} G1) ∗ (arr d main_v13_1 ↦[blk1Set L]{fullShare} G1)) := by
  unfold piece1 taskPiece
  exact congrArg₂ _ (pts_set ((View.set_slice_whole main_arg2_scv _).trans tabSet_univ) _ _)
    (congrArg₂ _ (pts_set ((View.set_slice_whole main_arg3_scv _).trans tabSet_univ) _ _)
    (congrArg₂ _ (pts_set ((View.set_reshape _ _).trans (View.set_slice_whole main_v10_scv _)) _ _)
    (congrArg₂ _ (pts_set ((View.set_reshape _ _).trans (View.set_slice_whole main_v12_scv _)) _ _)
    (congrArg₂ _ (pts_set (View.set_slice_whole main_v13_0_scv _) _ _) (congrArg₂ _ (pts_set (View.set_slice_whole main_v13_0_scv _) _ _)
    (congrArg₂ _ (pts_set (View.set_slice_whole main_v13_1_scv _) _ _) (pts_set (View.set_slice_whole main_v13_1_scv _) _ _)))))))

/-- Call 0's thirty-two pieces are its six arrays. -/
theorem pieces0 (d : Dev nD) (G0 : Buf (Elt F) (arr d main_v8_0)) (G1 : Buf (Elt F) (arr d main_v8_1)) :
    (bigSep Finset.univ fun c : Fin 2 => bigSep Finset.univ fun s : Fin 16 => (piece0 m d (coordsV c s) G0 G1 : sProp 𝕄))
      = iprop((arr d main_arg2 ↦{fullShare} m (arr d main_arg2)) ∗ (arr d main_arg3 ↦{fullShare} m (arr d main_arg3))
        ∗ (arr d main_v5 ↦{fullShare} wordsOf 0 (m (arr d main_arg0))) ∗ (arr d main_v7 ↦{fullShare} wordsOf 0 (m (arr d main_arg1)))
        ∗ (arr d main_v8_0 ↦{fullShare} G0) ∗ (arr d main_v8_1 ↦{fullShare} G1)) := by
  simp only [piece0_eq]
  exact pieces_join (arr d main_arg2) (arr d main_arg3) (arr d main_v5) (arr d main_v7) (arr d main_v8_0) (arr d main_v8_1) _ _ _ _ _ _
    rowsSet rowsSet blk0Set blk1Set blk0Set blk1Set rows_disjoint rows_cover rows_disjoint rows_cover blks_disjoint blks_cover blk01_disjoint blks_disjoint blks_cover blk01_disjoint

/-- Call 1's thirty-two pieces are its six arrays. -/
theorem pieces1 (d : Dev nD) (G0 : Buf (Elt F) (arr d main_v13_0)) (G1 : Buf (Elt F) (arr d main_v13_1)) :
    (bigSep Finset.univ fun c : Fin 2 => bigSep Finset.univ fun s : Fin 16 => (piece1 m d (coordsV c s) G0 G1 : sProp 𝕄))
      = iprop((arr d main_arg2 ↦{fullShare} m (arr d main_arg2)) ∗ (arr d main_arg3 ↦{fullShare} m (arr d main_arg3))
        ∗ (arr d main_v10 ↦{fullShare} wordsOf 1 (m (arr d main_arg0))) ∗ (arr d main_v12 ↦{fullShare} wordsOf 1 (m (arr d main_arg1)))
        ∗ (arr d main_v13_0 ↦{fullShare} G0) ∗ (arr d main_v13_1 ↦{fullShare} G1)) := by
  simp only [piece1_eq]
  exact pieces_join (arr d main_arg2) (arr d main_arg3) (arr d main_v10) (arr d main_v12) (arr d main_v13_0) (arr d main_v13_1) _ _ _ _ _ _
    rowsSet rowsSet blk0Set blk1Set blk0Set blk1Set rows_disjoint rows_cover rows_disjoint rows_cover blks_disjoint blks_cover blk01_disjoint blks_disjoint blks_cover blk01_disjoint

theorem st0_eq (d : Dev nD) : (bigSep Finset.univ fun c : Fin ((K (F := F)).nCore 0) => (P m).st 0 d c)
    = (bigSep Finset.univ fun c : Fin 2 => bigSep Finset.univ fun s : Fin 16 => (piece0 m d (coordsV c s) (m (arr d main_v8_0)) (m (arr d main_v8_1)) : sProp 𝕄)) := rfl
theorem dn0_eq (d : Dev nD) : (bigSep Finset.univ fun c : Fin ((K (F := F)).nCore 0) => (P m).dn 0 d c)
    = (bigSep Finset.univ fun c : Fin 2 => bigSep Finset.univ fun s : Fin 16 => (piece0 m d (coordsV c s) (rowsU m 0 d) (rowsI m 0 d) : sProp 𝕄)) := rfl
theorem st1_eq (d : Dev nD) : (bigSep Finset.univ fun c : Fin ((K (F := F)).nCore 1) => (P m).st 1 d c)
    = (bigSep Finset.univ fun c : Fin 2 => bigSep Finset.univ fun s : Fin 16 => (piece1 m d (coordsV c s) (m (arr d main_v13_0)) (m (arr d main_v13_1)) : sProp 𝕄)) := rfl
theorem dn1_eq (d : Dev nD) : (bigSep Finset.univ fun c : Fin ((K (F := F)).nCore 1) => (P m).dn 1 d c)
    = (bigSep Finset.univ fun c : Fin 2 => bigSep Finset.univ fun s : Fin 16 => (piece1 m d (coordsV c s) (rowsU m 1 d) (rowsI m 1 d) : sProp 𝕄)) := rfl

/-! ## The tasks' obligations -/

/-- What the run asks of the launch memory: every word of both lists names a row. -/
def PreOK : Prop := ∀ d : Dev nD, (∀ i, (m (arr d main_arg0) i : BitVec 32).toNat < 100000) ∧ (∀ i, (m (arr d main_arg1) i : BitVec 32).toNat < 100000)

variable [FloatOps F]

theorem defs₀_vector0 (c : Fin τ.nSC) (s : Fin τ.nSub) :
    defs₀ (F := F) (.scVector c s) 0 ()
      = SparseCore.onTile hcore0 hsub0 (fun c s => cc0_k (coordsV c s) (Memref.whole main_arg2_scv) (Memref.isWhole_whole _) (Memref.whole main_arg3_scv) (Memref.isWhole_whole _)
          (Memref.whole main_v5_scv) (Memref.isWhole_whole _) (Memref.whole main_v7_scv) (Memref.isWhole_whole _) (Memref.whole main_v8_0_scv) (Memref.isWhole_whole _) (Memref.whole main_v8_1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scoped0 cc0_scoped1 cc0_scoped2 cc0_scoped3 cc0_scoped4 cc0_scoped5) ⟨⟩ c s := rfl

theorem defs₀_vector1 (c : Fin τ.nSC) (s : Fin τ.nSub) :
    defs₀ (F := F) (.scVector c s) 1 ()
      = SparseCore.onTile hcore0 hsub0 (fun c s => cc0_k (coordsV c s) (Memref.whole main_arg2_scv) (Memref.isWhole_whole _) (Memref.whole main_arg3_scv) (Memref.isWhole_whole _)
          (Memref.whole main_v10_scv) (Memref.isWhole_whole _) (Memref.whole main_v12_scv) (Memref.isWhole_whole _) (Memref.whole main_v13_0_scv) (Memref.isWhole_whole _) (Memref.whole main_v13_1_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) (Memref.whole cc1_scratch5) (Memref.isWhole_whole _)
          cc1_scratch6 cc1_scratch7 cc1_scratch8 cc1_scratch9 cc1_scoped0 cc1_scoped1 cc1_scoped2 cc1_scoped3 cc1_scoped4 cc1_scoped5) ⟨⟩ c s := rfl

/-- A task's waits are the launch's own or no call's. -/
theorem post_weaken {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem words_lt {a : S16384.Idx → BitVec 32} (h : ∀ i, (a i).toNat < 100000) (q : Fin 2) (x : S32x2x128.Idx) : (wordsOf q a x).toNat < 100000 := h _

/-- The table as the gather addresses it has the table's own indices. -/
theorem tab_emb (x : S100000x128.Idx) : (Rect.unit (s := S100000x128) ![0, 0] S100000x128.size inb_S100000x128_S100000x128_0_0).emb x = x := by
  funext b
  apply Fin.ext
  rw [Rect.emb_apply]
  match b with
  | ⟨0, _⟩ => show 0 + 1 * (x 0).val = (x 0).val; omega
  | ⟨1, _⟩ => show 0 + 1 * (x 1).val = (x 1).val; omega

/-- What a task's block holds, in terms of the table and the list as arrays. -/
theorem value_at (t : Memref sig .scVector .hbm S100000x128 .f32) (T : t.view.ty.Contents (Elt F)) {T' : S100000x128.Idx → Elt F .f32} (hT : ∀ y, (tabAll t).view.read (Elt F) T y = T' y)
    (a : Memref sig .scVector .hbm S32x2x128 .i32) (L : grid0.Coords) (I : a.view.ty.Contents (Elt F)) (I' : S32x2x128.Idx → BitVec 32) (hI : ∀ y, a.view.read (Elt F) I y = I' y)
    (j : Fin 2) (x : S128x128.Idx) :
    T' (ix2 (tabRow (I' (ix3 (taskNo L) j (x 0 : Fin 128)))) (x 1 : Fin 128)) = blockVal t T a L I j x := by
  rw [← hI, ← hT]
  exact congrArg (fun w : BitVec 32 => (tabAll t).view.read (Elt F) T (ix2 (tabRow w) (x 1 : Fin 128))) (idxRows_read a L I j (x 0)).symm

/-- A task of call 0, on what its call hands it: it hands back the same, its blocks holding the rows its words name. -/
theorem task0 (hpre : PreOK m) (d : Dev nD) (L : grid0.Coords) (O : CellTallies nD τ sig (HIx 2)) (W : Waits sig (HIx 2)) (hO : ∀ g, O g none = 0) :
    iprop(levAts (K (F := F)).L (K (F := F)).lev ∗ emp ∗ goP m d L 0 ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_arg2_scv) (Memref.isWhole_whole _) (Memref.whole main_arg3_scv) (Memref.isWhole_whole _) (Memref.whole main_v5_scv) (Memref.isWhole_whole _) (Memref.whole main_v7_scv) (Memref.isWhole_whole _) (Memref.whole main_v8_0_scv) (Memref.isWhole_whole _) (Memref.whole main_v8_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5)
          fun _ => iprop(tdP m d L 0 ∗ scopedBufs (V d (cV L) (jV L)) ∗ scopedSems0 (V d (cV L) (jV L)) ∗ ∃ W', ⌜∀ p ∈ W', p ∈ W ∨ p.2 = none⌝ ∗ owes (V d (cV L) (jV L)) O W') := by
  obtain ⟨RB, hB⟩ := ownBufs_0 (F := F) d L
  obtain ⟨RS, hS⟩ := ownSems_0 (F := F) d L
  rw [(K (F := F)).scopedBufs_V facts d (cV L) (jV L), SparseCore.Cfg.scopedSems0_V (Val := Elt F) d (cV L) (jV L), hB, hS, emp_star]
  exact task_run d L (Memref.whole main_arg2_scv) (Memref.whole main_arg3_scv) (Memref.whole main_v5_scv) (Memref.whole main_v7_scv) (Memref.whole main_v8_0_scv) (Memref.whole main_v8_1_scv) (Memref.isWhole_whole _) (Memref.isWhole_whole _) (Memref.isWhole_whole _) (Memref.isWhole_whole _) (Memref.isWhole_whole _) (Memref.isWhole_whole _) (Memref.whole cc0_scratch0) (Memref.whole cc0_scratch1) (Memref.whole cc0_scratch2) (Memref.whole cc0_scratch3) (Memref.whole cc0_scratch4) (Memref.whole cc0_scratch5) (Memref.isWhole_whole _) (Memref.isWhole_whole _) (Memref.isWhole_whole _) (Memref.isWhole_whole _) (Memref.isWhole_whole _) (Memref.isWhole_whole _) cc0_scratch6 cc0_scratch7 cc0_scratch8 cc0_scratch9 cc0_scoped0 cc0_scoped1 cc0_scoped2 cc0_scoped3 cc0_scoped4 cc0_scoped5
    (m (arr d main_arg2)) (m (arr d main_arg3)) (wordsOf 0 (m (arr d main_arg0))) (wordsOf 0 (m (arr d main_arg1)))
    (m (arr d main_v8_0)) (rowsU m 0 d) (m (arr d main_v8_1)) (rowsI m 0 d)
    (fun j => words_lt (hpre d).1 0 _) (fun j => words_lt (hpre d).2 0 _)
    (fun x => (gathered_out0 (m (arr d main_arg2)) (wordsOf 0 (m (arr d main_arg0))) L x).trans (value_at (Memref.whole main_arg2_scv) (m (arr d main_arg2)) (fun y => congrArg (m (arr d main_arg2)) (tab_emb y)) (Memref.whole main_v5_scv) L (wordsOf 0 (m (arr d main_arg0))) (wordsOf 0 (m (arr d main_arg0))) (fun _ => rfl) 0 x))
    (fun x => (gathered_out1 (m (arr d main_arg2)) (wordsOf 0 (m (arr d main_arg0))) L x).trans (value_at (Memref.whole main_arg2_scv) (m (arr d main_arg2)) (fun y => congrArg (m (arr d main_arg2)) (tab_emb y)) (Memref.whole main_v5_scv) L (wordsOf 0 (m (arr d main_arg0))) (wordsOf 0 (m (arr d main_arg0))) (fun _ => rfl) 1 x))
    (fun x => (gathered_out0 (m (arr d main_arg3)) (wordsOf 0 (m (arr d main_arg1))) L x).trans (value_at (Memref.whole main_arg3_scv) (m (arr d main_arg3)) (fun y => congrArg (m (arr d main_arg3)) (tab_emb y)) (Memref.whole main_v7_scv) L (wordsOf 0 (m (arr d main_arg1))) (wordsOf 0 (m (arr d main_arg1))) (fun _ => rfl) 0 x))
    (fun x => (gathered_out1 (m (arr d main_arg3)) (wordsOf 0 (m (arr d main_arg1))) L x).trans (value_at (Memref.whole main_arg3_scv) (m (arr d main_arg3)) (fun y => congrArg (m (arr d main_arg3)) (tab_emb y)) (Memref.whole main_v7_scv) L (wordsOf 0 (m (arr d main_arg1))) (wordsOf 0 (m (arr d main_arg1))) (fun _ => rfl) 1 x))
    RB RS O W hO

/-- A task of call 1, on what its call hands it: it hands back the same, its blocks holding the rows its words name. -/
theorem task1 (hpre : PreOK m) (d : Dev nD) (L : grid0.Coords) (O : CellTallies nD τ sig (HIx 2)) (W : Waits sig (HIx 2)) (hO : ∀ g, O g none = 0) :
    iprop(levAts (K (F := F)).L (K (F := F)).lev ∗ emp ∗ goP m d L 1 ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_arg2_scv) (Memref.isWhole_whole _) (Memref.whole main_arg3_scv) (Memref.isWhole_whole _) (Memref.whole main_v10_scv) (Memref.isWhole_whole _) (Memref.whole main_v12_scv) (Memref.isWhole_whole _) (Memref.whole main_v13_0_scv) (Memref.isWhole_whole _) (Memref.whole main_v13_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5)
          fun _ => iprop(tdP m d L 1 ∗ scopedBufs (V d (cV L) (jV L)) ∗ scopedSems0 (V d (cV L) (jV L)) ∗ ∃ W', ⌜∀ p ∈ W', p ∈ W ∨ p.2 = none⌝ ∗ owes (V d (cV L) (jV L)) O W') := by
  obtain ⟨RB, hB⟩ := ownBufs_1 (F := F) d L
  obtain ⟨RS, hS⟩ := ownSems_1 (F := F) d L
  rw [(K (F := F)).scopedBufs_V facts d (cV L) (jV L), SparseCore.Cfg.scopedSems0_V (Val := Elt F) d (cV L) (jV L), hB, hS, emp_star]
  exact task_run d L (Memref.whole main_arg2_scv) (Memref.whole main_arg3_scv) (Memref.whole main_v10_scv) (Memref.whole main_v12_scv) (Memref.whole main_v13_0_scv) (Memref.whole main_v13_1_scv) (Memref.isWhole_whole _) (Memref.isWhole_whole _) (Memref.isWhole_whole _) (Memref.isWhole_whole _) (Memref.isWhole_whole _) (Memref.isWhole_whole _) (Memref.whole cc1_scratch0) (Memref.whole cc1_scratch1) (Memref.whole cc1_scratch2) (Memref.whole cc1_scratch3) (Memref.whole cc1_scratch4) (Memref.whole cc1_scratch5) (Memref.isWhole_whole _) (Memref.isWhole_whole _) (Memref.isWhole_whole _) (Memref.isWhole_whole _) (Memref.isWhole_whole _) (Memref.isWhole_whole _) cc1_scratch6 cc1_scratch7 cc1_scratch8 cc1_scratch9 cc1_scoped0 cc1_scoped1 cc1_scoped2 cc1_scoped3 cc1_scoped4 cc1_scoped5
    (m (arr d main_arg2)) (m (arr d main_arg3)) (wordsOf 1 (m (arr d main_arg0))) (wordsOf 1 (m (arr d main_arg1)))
    (m (arr d main_v13_0)) (rowsU m 1 d) (m (arr d main_v13_1)) (rowsI m 1 d)
    (fun j => words_lt (hpre d).1 1 _) (fun j => words_lt (hpre d).2 1 _)
    (fun x => (gathered_out0 (m (arr d main_arg2)) (wordsOf 1 (m (arr d main_arg0))) L x).trans (value_at (Memref.whole main_arg2_scv) (m (arr d main_arg2)) (fun y => congrArg (m (arr d main_arg2)) (tab_emb y)) (Memref.whole main_v10_scv) L (wordsOf 1 (m (arr d main_arg0))) (wordsOf 1 (m (arr d main_arg0))) (fun _ => rfl) 0 x))
    (fun x => (gathered_out1 (m (arr d main_arg2)) (wordsOf 1 (m (arr d main_arg0))) L x).trans (value_at (Memref.whole main_arg2_scv) (m (arr d main_arg2)) (fun y => congrArg (m (arr d main_arg2)) (tab_emb y)) (Memref.whole main_v10_scv) L (wordsOf 1 (m (arr d main_arg0))) (wordsOf 1 (m (arr d main_arg0))) (fun _ => rfl) 1 x))
    (fun x => (gathered_out0 (m (arr d main_arg3)) (wordsOf 1 (m (arr d main_arg1))) L x).trans (value_at (Memref.whole main_arg3_scv) (m (arr d main_arg3)) (fun y => congrArg (m (arr d main_arg3)) (tab_emb y)) (Memref.whole main_v12_scv) L (wordsOf 1 (m (arr d main_arg1))) (wordsOf 1 (m (arr d main_arg1))) (fun _ => rfl) 0 x))
    (fun x => (gathered_out1 (m (arr d main_arg3)) (wordsOf 1 (m (arr d main_arg1))) L x).trans (value_at (Memref.whole main_arg3_scv) (m (arr d main_arg3)) (fun y => congrArg (m (arr d main_arg3)) (tab_emb y)) (Memref.whole main_v12_scv) L (wordsOf 1 (m (arr d main_arg1))) (wordsOf 1 (m (arr d main_arg1))) (fun _ => rfl) 1 x))
    RB RS O W hO

set_option maxRecDepth 16384 in
/-- The obligation of call 0's tasks. -/
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (task0 m hpre d (coordsV ⟨_, hci.1⟩ ⟨_, hci.2⟩) O W hO).trans (wp_mono frame _ _ fun _ => post_weaken)

set_option maxRecDepth 16384 in
/-- The obligation of call 1's tasks. -/
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (task1 m hpre d (coordsV ⟨_, hci.1⟩ ⟨_, hci.2⟩) O W hO).trans (wp_mono frame _ _ fun _ => post_weaken)

end Cert.Proof

end
-- ==== Proof.Mlp.lean ====
/- The TensorCore kernel's body on one block of 2048 rows, run once over any seven staging buffers. -/
module

public import proofs.«01_k».proof.Proof.Rows
public import Idealize.ShloMosaic.Lib.Pipeline.Value

@[expose] public section

set_option maxRecDepth 1000000

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

theorem zeros2 : (![0, 0] : Fin 2 → Nat) = fun _ => 0 := by funext a; fin_cases a <;> rfl

/-- A view stored whole reads what was stored. -/
theorem read_store {κ : Kind} {sp : Space} {s : Shape} {e : EltTy} (v : View sig κ sp s e) (f : v.ty.Contents (Elt F)) {off : Fin s.rank → Nat}
    (h : off = fun _ => 0) (inb : ∀ a, off a + s.size a ≤ s.size a) (x : s.Idx → Elt F e) :
    v.read (Elt F) (v.writes (Elt F) f [⟨Rect.unit off s.size inb, x⟩]) = x := by
  subst h; exact View.read_writes_whole v f x

/-- A view loaded whole gives what it reads. -/
theorem readAt_all {κ : Kind} {sp : Space} {s : Shape} {e : EltTy} (v : View sig κ sp s e) (f : v.ty.Contents (Elt F)) {off : Fin s.rank → Nat}
    (h : off = fun _ => 0) (inb : ∀ a, off a + s.size a ≤ s.size a) {x : s.Idx → Elt F e} (hx : v.read (Elt F) f = x) :
    v.readAt (Elt F) (Rect.unit off s.size inb).toLoadRect f = x :=
  (View.ld_unit_zero h inb _).trans hx

/-- ONE BLOCK. The six operand blocks and the result's block are staged whole; the body leaves the operands as they
    were and the result's block at the perceptron of them. -/
theorem mlp_body (c : Dev nD) (i : grid2.Coords)
    (a1 : Memref sig .tc .vmem S2048x128 .f32) (h1 : a1.IsWhole) (a2 : Memref sig .tc .vmem S2048x128 .f32) (h2 : a2.IsWhole)
    (a3 : Memref sig .tc .vmem S256x256 .f32) (h3 : a3.IsWhole) (a4 : Memref sig .tc .vmem S1x256 .f32) (h4 : a4.IsWhole)
    (a5 : Memref sig .tc .vmem S1x256 .f32) (h5 : a5.IsWhole) (a6 : Memref sig .tc .vmem S1x1 .f32) (h6 : a6.IsWhole)
    (a7 : Memref sig .tc .vmem S1x2048 .f32) (h7 : a7.IsWhole)
    (X1 X2 : Vec F S2048x128 .f32) (X3 : Vec F S256x256 .f32) (X4 X5 : Vec F S1x256 .f32) (X6 : Vec F S1x1 .f32) (X7 : Vec F S1x2048 .f32) :
    iprop((owns (T c) a1 fullShare X1 : sProp 𝕄) ∗ owns (T c) a2 fullShare X2 ∗ owns (T c) a3 fullShare X3 ∗ owns (T c) a4 fullShare X4
        ∗ owns (T c) a5 fullShare X5 ∗ owns (T c) a6 fullShare X6 ∗ owns (T c) a7 fullShare X7)
      ⊢ wp frame (wpE (defs₀ (F := F)) 𝒱₀ (T c) none) Set.univ (cc2__mlp_body i a1 h1 a2 h2 a3 h3 a4 h4 a5 h5 a6 h6 a7 h7) fun _ =>
        iprop(owns (T c) a1 fullShare X1 ∗ owns (T c) a2 fullShare X2 ∗ owns (T c) a3 fullShare X3 ∗ owns (T c) a4 fullShare X4
          ∗ owns (T c) a5 fullShare X5 ∗ owns (T c) a6 fullShare X6 ∗ owns (T c) a7 fullShare (k2_pay1 X1 X2 X3 X4 X5 X6)) := by
  rw [cc2__mlp_body_eq_skeleton]
  unfold cc2__mlp_body_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  sl_exec
  rw [readAt_all a1.view f1 zeros2 _ e1, readAt_all a2.view f2 zeros2 _ e2, readAt_all a3.view f3 zeros2 _ e3,
    readAt_all a4.view f4 zeros2 _ e4, readAt_all a5.view f5 zeros2 _ e5, readAt_all a6.view f6 zeros2 _ e6]
  sl_step
  isplitl [H1]; · iexists f1; isplitr; · ipureintro; exact e1
                  · iexact H1
  isplitl [H2]; · iexists f2; isplitr; · ipureintro; exact e2
                  · iexact H2
  isplitl [H3]; · iexists f3; isplitr; · ipureintro; exact e3
                  · iexact H3
  isplitl [H4]; · iexists f4; isplitr; · ipureintro; exact e4
                  · iexact H4
  isplitl [H5]; · iexists f5; isplitr; · ipureintro; exact e5
                  · iexact H5
  isplitl [H6]; · iexists f6; isplitr; · ipureintro; exact e6
                  · iexact H6
  iexists _; isplitr; swap; · iexact H7
  ipureintro; exact read_store a7.view f7 zeros2 _ _

/-- The same with two things beside it, untouched. -/
theorem mlp_beside (P Q : sProp 𝕄) (c : Dev nD) (i : grid2.Coords)
    (a1 : Memref sig .tc .vmem S2048x128 .f32) (h1 : a1.IsWhole) (a2 : Memref sig .tc .vmem S2048x128 .f32) (h2 : a2.IsWhole)
    (a3 : Memref sig .tc .vmem S256x256 .f32) (h3 : a3.IsWhole) (a4 : Memref sig .tc .vmem S1x256 .f32) (h4 : a4.IsWhole)
    (a5 : Memref sig .tc .vmem S1x256 .f32) (h5 : a5.IsWhole) (a6 : Memref sig .tc .vmem S1x1 .f32) (h6 : a6.IsWhole)
    (a7 : Memref sig .tc .vmem S1x2048 .f32) (h7 : a7.IsWhole)
    (X1 X2 : Vec F S2048x128 .f32) (X3 : Vec F S256x256 .f32) (X4 X5 : Vec F S1x256 .f32) (X6 : Vec F S1x1 .f32) (X7 : Vec F S1x2048 .f32) :
    iprop(P ∗ Q ∗ owns (T c) a1 fullShare X1 ∗ owns (T c) a2 fullShare X2 ∗ owns (T c) a3 fullShare X3 ∗ owns (T c) a4 fullShare X4
        ∗ owns (T c) a5 fullShare X5 ∗ owns (T c) a6 fullShare X6 ∗ owns (T c) a7 fullShare X7)
      ⊢ wp frame (wpE (defs₀ (F := F)) 𝒱₀ (T c) none) Set.univ (cc2__mlp_body i a1 h1 a2 h2 a3 h3 a4 h4 a5 h5 a6 h6 a7 h7) fun _ =>
        iprop(P ∗ Q ∗ owns (T c) a1 fullShare X1 ∗ owns (T c) a2 fullShare X2 ∗ owns (T c) a3 fullShare X3 ∗ owns (T c) a4 fullShare X4
          ∗ owns (T c) a5 fullShare X5 ∗ owns (T c) a6 fullShare X6 ∗ owns (T c) a7 fullShare (k2_pay1 X1 X2 X3 X4 X5 X6)) := by
  iintro ⟨HP, HQ, H⟩
  ihave Hwp := (mlp_body c i a1 h1 a2 h2 a3 h3 a4 h4 a5 h5 a6 h6 a7 h7 X1 X2 X3 X4 X5 X6 X7) $$ H
  iapply (wp_wand_r frame _ _)
  isplitl [Hwp]; · iexact Hwp
  iintro %_ H
  isplitl [HP]; · iexact HP
  isplitl [HQ]; · iexact HQ
  iexact H

end Cert.Proof
-- ==== Proof.Region.lean ====
/- The two TensorCore calls: each runs the perceptron over four blocks of 2048 rows, and leaves its result at a closed
   form of its operands. -/
module

public import proofs.«01_k».proof.Proof.Mlp
public import proofs.«01_k».proof.Proof.Gen.KernelIdeal.Points
public import Idealize.ShloMosaic.Lib.Pipeline.RegionArrays
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 2) (Elt F) ℕ UU ℕ

/-! ## The result in closed form -/

/-- Block `i` of 2048 rows of an array of 8192. -/
def rowBlk (X : S8192x128.Idx → F .f32) (i : Fin 4) : S2048x128.Idx → F .f32 := fun y =>
  X (ValueIdx.ix2 ⟨2048 * i.val + (y 0).val, by have h0 := i.isLt; have h1 : (y 0).val < 2048 := (y 0).isLt; omega⟩ (y 1))

/-- The perceptron's result on 8192 pairs of rows: column `x` is column `x % 2048` of the block it lies in. -/
def mlpOut (Xu Xi : S8192x128.Idx → F .f32) (w1 : S256x256.Idx → F .f32) (b1 w2 : S1x256.Idx → F .f32) (b2 : S1x1.Idx → F .f32) :
    S1x8192.Idx → F .f32 := fun x =>
  k2_pay1 (F := F) (rowBlk Xu ⟨(x 1).val / 2048, by have h : (x 1).val < 8192 := (x 1).isLt; omega⟩)
    (rowBlk Xi ⟨(x 1).val / 2048, by have h : (x 1).val < 8192 := (x 1).isLt; omega⟩) w1 b1 w2 b2
    (ValueIdx.ix2 (0 : Fin 1) (⟨(x 1).val % 2048, Nat.mod_lt _ (by decide)⟩ : Fin 2048))

/-- Column `y` of block `t` of the result is the perceptron on block `t`. -/
theorem mlpOut_at (Xu Xi : S8192x128.Idx → F .f32) (w1 : S256x256.Idx → F .f32) (b1 w2 : S1x256.Idx → F .f32) (b2 : S1x1.Idx → F .f32)
    (t : Fin 4) (y : S1x2048.Idx) (z : S1x8192.Idx) (hz : (z 1).val = 2048 * t.val + (y 1).val) :
    mlpOut Xu Xi w1 b1 w2 b2 z = k2_pay1 (F := F) (rowBlk Xu t) (rowBlk Xi t) w1 b1 w2 b2 y := by
  have hy : (y 1).val < 2048 := (y 1).isLt
  have h1 : (z 1).val / 2048 = t.val := by omega
  have h2 : (z 1).val % 2048 = (y 1).val := by omega
  unfold mlpOut
  have e1 : ∀ h, (⟨(z 1).val / 2048, h⟩ : Fin 4) = t := fun _ => Fin.ext h1
  have e2 : (ValueIdx.ix2 (0 : Fin 1) (⟨(z 1).val % 2048, Nat.mod_lt _ (by decide)⟩ : Fin 2048) : S1x2048.Idx) = y := by
    funext a
    match a with
    | 0 => exact Subsingleton.elim (α := Fin 1) _ _
    | 1 => exact Fin.ext h2
  rw [e1, e2]

/-! ## The proof data -/

variable (W : Dev nD → Valuation τ sig (Elt F))

/-- A window's block at a point, of its array as it stands at entry. -/
abbrev blk2 (c : Dev nD) (w : Fin 7) (t : Fin cfg2.N) := ((cfg2.win w).blk t).view.read (Elt F) (W c (Proc.devRef .tc (Pipeline.arrRef spec2 w)))
abbrev blk3 (c : Dev nD) (w : Fin 7) (t : Fin cfg3.N) := ((cfg3.win w).blk t).view.read (Elt F) (W c (Proc.devRef .tc (Pipeline.arrRef spec3 w)))

/-- The first call's proof data: operands' blocks as staged, the result's the perceptron of them. -/
def dat2 (c : Dev nD) : Dat τ (Elt F) (HIx 2) ℕ UU ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => k2_pay1 (F := F) (blk2 W c 0 t) (blk2 W c 1 t) (blk2 W c 2 t) (blk2 W c 3 t) (blk2 W c 4 t) (blk2 W c 5 t)
  Φ _ := Pipeline.scopedRest (Ix := HIx 2) (Name := ℕ) (U := UU) (Lvl := ℕ) (Val := Elt F) spec2 c
  q _ := fullShare
  owed _ := 0

/-- The second call's likewise. -/
def dat3 (c : Dev nD) : Dat τ (Elt F) (HIx 2) ℕ UU ℕ cfg3 c where
  A w := W c (Proc.devRef .tc (Pipeline.arrRef spec3 w))
  after w t := match w with
    | ⟨0, _⟩ => blk3 W c 0 t
    | ⟨1, _⟩ => blk3 W c 1 t
    | ⟨2, _⟩ => blk3 W c 2 t
    | ⟨3, _⟩ => blk3 W c 3 t
    | ⟨4, _⟩ => blk3 W c 4 t
    | ⟨5, _⟩ => blk3 W c 5 t
    | ⟨6, _⟩ => k2_pay1 (F := F) (blk3 W c 0 t) (blk3 W c 1 t) (blk3 W c 2 t) (blk3 W c 3 t) (blk3 W c 4 t) (blk3 W c 5 t)
  Φ _ := Pipeline.scopedRest (Ix := HIx 2) (Name := ℕ) (U := UU) (Lvl := ℕ) (Val := Elt F) spec3 c
  q _ := fullShare
  owed _ := 0

/-- Neither call prefetches a table. -/
abbrev adm : (p : Fin 2) → (pcfgs (F := F) p).Adm := fun p => (cfgs p).toPCfg_adm

/-- Both calls' proof data, from one valuation. -/
def pdats : (p : Fin 2) → (c : Dev nD) → Dat τ (Elt F) (HIx 2) ℕ UU ℕ (Pipeline.pin (pcfgs (F := F)) adm p) c
  | ⟨0, _⟩ => fun c => dat2 W c
  | ⟨1, _⟩ => fun c => dat3 W c

/-- The body meets its obligation at every point of the first call. -/
theorem body2 (c : Dev nD) : BodyObligation (dat2 W c) (defs₀ (F := F)) 𝒱₀ none Set.univ := fun t => by
  rw [bigSep_W2, bigSep_W2]
  simp only []
  iintro ⟨HΦ, Howes, ⟨%d0, H0⟩, ⟨%d1, H1⟩, ⟨%d2, H2⟩, ⟨%d3, H3⟩, ⟨%d4, H4⟩, ⟨%d5, H5⟩, ⟨%d6, H6⟩⟩
  have hb (w : Fin 7) (hw : (cfg2.win w).isOut = false) (hk : ∀ t, (cfg2.win w).cut (cfg2.grid.coords t) ((dat2 W c).after w t) = (dat2 W c).blockOf w t)
      (hc : ∀ t t' : Fin cfg2.N, (cfg2.win w).index t = (cfg2.win w).index t' → (cfg2.win w).clip (cfg2.grid.coords t) = (cfg2.win w).clip (cfg2.grid.coords t'))
      (d) : (dat2 W c).before w t d = (dat2 W c).fetched w t d :=
    (dat2 W c).before_in_eq_fetched w hw (fun _ => rfl) hc hk t d
  rw [hb 0 rfl (fun _ => rfl) fun _ _ _ => rfl, hb 1 rfl (fun _ => rfl) fun _ _ _ => rfl, hb 2 rfl (fun _ => rfl) fun _ _ _ => rfl,
    hb 3 rfl (fun _ => rfl) fun _ _ _ => rfl, hb 4 rfl (fun _ => rfl) fun _ _ _ => rfl, hb 5 rfl (fun _ => rfl) fun _ _ _ => rfl]
  iapply (mlp_beside ((dat2 W c).Φ t.castSucc) ((dat2 W c).owesAt none t.castSucc) c (grid2.coords t)
    _ (hstage2_0 ((cfg2.slots t 0).cast nbuf2_0)) _ (hstage2_1 ((cfg2.slots t 1).cast nbuf2_1))
    _ (hstage2_2 ((cfg2.slots t 2).cast nbuf2_2)) _ (hstage2_3 ((cfg2.slots t 3).cast nbuf2_3)) _ (hstage2_4 ((cfg2.slots t 4).cast nbuf2_4))
    _ (hstage2_5 ((cfg2.slots t 5).cast nbuf2_5)) _ (hstage2_6 ((cfg2.slots t 6).cast nbuf2_6))
    (blk2 W c 0 t) (blk2 W c 1 t) (blk2 W c 2 t) (blk2 W c 3 t) (blk2 W c 4 t) (blk2 W c 5 t) ((dat2 W c).before 6 t d6))
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-- The body meets its obligation at every point of the second call. -/
theorem body3 (c : Dev nD) : BodyObligation (dat3 W c) (defs₀ (F := F)) 𝒱₀ none Set.univ := fun t => by
  rw [bigSep_W3, bigSep_W3]
  simp only []
  iintro ⟨HΦ, Howes, ⟨%d0, H0⟩, ⟨%d1, H1⟩, ⟨%d2, H2⟩, ⟨%d3, H3⟩, ⟨%d4, H4⟩, ⟨%d5, H5⟩, ⟨%d6, H6⟩⟩
  have hb (w : Fin 7) (hw : (cfg3.win w).isOut = false) (hk : ∀ t, (cfg3.win w).cut (cfg3.grid.coords t) ((dat3 W c).after w t) = (dat3 W c).blockOf w t)
      (hc : ∀ t t' : Fin cfg3.N, (cfg3.win w).index t = (cfg3.win w).index t' → (cfg3.win w).clip (cfg3.grid.coords t) = (cfg3.win w).clip (cfg3.grid.coords t'))
      (d) : (dat3 W c).before w t d = (dat3 W c).fetched w t d :=
    (dat3 W c).before_in_eq_fetched w hw (fun _ => rfl) hc hk t d
  rw [hb 0 rfl (fun _ => rfl) fun _ _ _ => rfl, hb 1 rfl (fun _ => rfl) fun _ _ _ => rfl, hb 2 rfl (fun _ => rfl) fun _ _ _ => rfl,
    hb 3 rfl (fun _ => rfl) fun _ _ _ => rfl, hb 4 rfl (fun _ => rfl) fun _ _ _ => rfl, hb 5 rfl (fun _ => rfl) fun _ _ _ => rfl]
  iapply (mlp_beside ((dat3 W c).Φ t.castSucc) ((dat3 W c).owesAt none t.castSucc) c (grid3.coords t)
    _ (hstage3_0 ((cfg3.slots t 0).cast nbuf3_0)) _ (hstage3_1 ((cfg3.slots t 1).cast nbuf3_1))
    _ (hstage3_2 ((cfg3.slots t 2).cast nbuf3_2)) _ (hstage3_3 ((cfg3.slots t 3).cast nbuf3_3)) _ (hstage3_4 ((cfg3.slots t 4).cast nbuf3_4))
    _ (hstage3_5 ((cfg3.slots t 5).cast nbuf3_5)) _ (hstage3_6 ((cfg3.slots t 6).cast nbuf3_6))
    (blk3 W c 0 t) (blk3 W c 1 t) (blk3 W c 2 t) (blk3 W c 3 t) (blk3 W c 4 t) (blk3 W c 5 t) ((dat3 W c).before 6 t d6))
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## Where the blocks lie, and the results -/

/-- Each window's block index at a point of the first call. -/
theorem index2 : ∀ t : Fin cfg2.N, win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![0, t.val] :=
  (by decide +kernel : ∀ t : Fin grid2.N, _)

/-- What the first call leaves in its result. -/
theorem out2 (c : Dev nD) : (dat2 W c).arrAt 6 cfg2.N
    = mlpOut (F := F) (W c (Proc.devRef .tc main_v8_0)) (W c (Proc.devRef .tc main_v8_1)) (W c (Proc.devRef .tc main_arg4))
        (W c (Proc.devRef .tc main_v2)) (W c (Proc.devRef .tc main_arg6)) (W c (Proc.devRef .tc main_v3)) := by
  refine (dat2 W c).arrAt_eq_of_covers 6 _ (by decide +kernel) fun t hf y => ?_
  obtain ⟨i0, i1, i2, i3, i4, i5, i6⟩ := index2 t
  have e0 : blk2 W c 0 t = rowBlk (F := F) (W c (Proc.devRef .tc main_v8_0)) t := funext fun x => congrArg (W c (Proc.devRef .tc main_v8_0))
    (show (win2_0.blk t).view.emb x = _ from by blk_ext [i0])
  have e1 : blk2 W c 1 t = rowBlk (F := F) (W c (Proc.devRef .tc main_v8_1)) t := funext fun x => congrArg (W c (Proc.devRef .tc main_v8_1))
    (show (win2_1.blk t).view.emb x = _ from by blk_ext [i1])
  have e2 : blk2 W c 2 t = W c (Proc.devRef .tc main_arg4) := funext fun x => congrArg (W c (Proc.devRef .tc main_arg4))
    (show (win2_2.blk t).view.emb x = _ from by blk_ext [i2])
  have e3 : blk2 W c 3 t = W c (Proc.devRef .tc main_v2) := funext fun x => congrArg (W c (Proc.devRef .tc main_v2))
    (show (win2_3.blk t).view.emb x = _ from by blk_ext [i3])
  have e4 : blk2 W c 4 t = W c (Proc.devRef .tc main_arg6) := funext fun x => congrArg (W c (Proc.devRef .tc main_arg6))
    (show (win2_4.blk t).view.emb x = _ from by blk_ext [i4])
  have e5 : blk2 W c 5 t = W c (Proc.devRef .tc main_v3) := funext fun x => congrArg (W c (Proc.devRef .tc main_v3))
    (show (win2_5.blk t).view.emb x = _ from by blk_ext [i5])
  blk_simp
  rw [mlpOut_at _ _ _ _ _ _ t y _ (by blk_simp [i6]; omega)]
  show k2_pay1 (F := F) (blk2 W c 0 t) (blk2 W c 1 t) (blk2 W c 2 t) (blk2 W c 3 t) (blk2 W c 4 t) (blk2 W c 5 t) y = _
  rw [e0, e1, e2, e3, e4, e5]

/-- Each window's block index at a point of the second call. -/
theorem index3 : ∀ t : Fin cfg3.N, win3_0.index t = ![t.val, 0] ∧ win3_1.index t = ![t.val, 0] ∧ win3_2.index t = ![0, 0] ∧ win3_3.index t = ![0, 0]
    ∧ win3_4.index t = ![0, 0] ∧ win3_5.index t = ![0, 0] ∧ win3_6.index t = ![0, t.val] :=
  (by decide +kernel : ∀ t : Fin grid3.N, _)

/-- What the second call leaves in its result. -/
theorem out3 (c : Dev nD) : (dat3 W c).arrAt 6 cfg3.N
    = mlpOut (F := F) (W c (Proc.devRef .tc main_v13_0)) (W c (Proc.devRef .tc main_v13_1)) (W c (Proc.devRef .tc main_arg4))
        (W c (Proc.devRef .tc main_v2)) (W c (Proc.devRef .tc main_arg6)) (W c (Proc.devRef .tc main_v3)) := by
  refine (dat3 W c).arrAt_eq_of_covers 6 _ (by decide +kernel) fun t hf y => ?_
  obtain ⟨i0, i1, i2, i3, i4, i5, i6⟩ := index3 t
  have e0 : blk3 W c 0 t = rowBlk (F := F) (W c (Proc.devRef .tc main_v13_0)) t := funext fun x => congrArg (W c (Proc.devRef .tc main_v13_0))
    (show (win3_0.blk t).view.emb x = _ from by blk_ext [i0])
  have e1 : blk3 W c 1 t = rowBlk (F := F) (W c (Proc.devRef .tc main_v13_1)) t := funext fun x => congrArg (W c (Proc.devRef .tc main_v13_1))
    (show (win3_1.blk t).view.emb x = _ from by blk_ext [i1])
  have e2 : blk3 W c 2 t = W c (Proc.devRef .tc main_arg4) := funext fun x => congrArg (W c (Proc.devRef .tc main_arg4))
    (show (win3_2.blk t).view.emb x = _ from by blk_ext [i2])
  have e3 : blk3 W c 3 t = W c (Proc.devRef .tc main_v2) := funext fun x => congrArg (W c (Proc.devRef .tc main_v2))
    (show (win3_3.blk t).view.emb x = _ from by blk_ext [i3])
  have e4 : blk3 W c 4 t = W c (Proc.devRef .tc main_arg6) := funext fun x => congrArg (W c (Proc.devRef .tc main_arg6))
    (show (win3_4.blk t).view.emb x = _ from by blk_ext [i4])
  have e5 : blk3 W c 5 t = W c (Proc.devRef .tc main_v3) := funext fun x => congrArg (W c (Proc.devRef .tc main_v3))
    (show (win3_5.blk t).view.emb x = _ from by blk_ext [i5])
  blk_simp
  rw [mlpOut_at _ _ _ _ _ _ t y _ (by blk_simp [i6]; omega)]
  show k2_pay1 (F := F) (blk3 W c 0 t) (blk3 W c 1 t) (blk3 W c 2 t) (blk3 W c 3 t) (blk3 W c 4 t) (blk3 W c 5 t) y = _
  rw [e0, e1, e2, e3, e4, e5]

/-! ## The calls over every unscoped buffer -/

/-- A valuation after the first call, and after the second. -/
def after2 (V : Valuation τ sig (Elt F)) : Valuation τ sig (Elt F) :=
  Function.update V (Proc.devRef .tc main_v14) (mlpOut (F := F) (V (Proc.devRef .tc main_v8_0)) (V (Proc.devRef .tc main_v8_1)) (V (Proc.devRef .tc main_arg4))
    (V (Proc.devRef .tc main_v2)) (V (Proc.devRef .tc main_arg6)) (V (Proc.devRef .tc main_v3)))
def after3 (V : Valuation τ sig (Elt F)) : Valuation τ sig (Elt F) :=
  Function.update V (Proc.devRef .tc main_v15) (mlpOut (F := F) (V (Proc.devRef .tc main_v13_0)) (V (Proc.devRef .tc main_v13_1)) (V (Proc.devRef .tc main_arg4))
    (V (Proc.devRef .tc main_v2)) (V (Proc.devRef .tc main_arg6)) (V (Proc.devRef .tc main_v3)))

/-- A staging wait's index sits at level zero, and nothing is owed that it could block. -/
theorem cut (p : Fin 2) : Pipeline.LevelCut (nD := nD) (τ := τ) (pcfgs (F := F)) adm (none : HIx 2) (K (F := F)).L (K (F := F)).lev p (fun _ => 0) fun _ => 0 where
  hι _ _ _ := Finset.mem_univ _
  hιb _ _ _ := le_of_eq rfl
  hD _ _ _ h := absurd h (Nat.lt_irrefl 0)

/-- Nothing beside a piece, either way. -/
theorem drop_emp (P : sProp 𝕄) : iprop(P ∗ emp) ⊢ P := by iintro ⟨H, -⟩; iexact H
theorem add_emp (P : sProp 𝕄) : P ⊢ iprop(P ∗ emp) := by
  iintro H; isplitl [H]; · iexact H
  iempintro

/-- Only the result changes. -/
theorem after2_ne (V : Valuation τ sig (Elt F)) (b : Ref sig .tc) (h : b ≠ main_v14) : after2 V (Proc.devRef .tc b) = V (Proc.devRef .tc b) :=
  Function.update_of_ne (fun e => h (Proc.devRef_injective _ e)) _ _

/-- Each window's array at the end of the first call. -/
theorem end2 (c : Dev nD) (w : Fin 7) : (dat2 W c).arrAt w cfg2.N = after2 (W c) (Proc.devRef .tc (Pipeline.arrRef spec2 w)) := by
  by_cases hw : w = 6
  · subst hw
    exact (out2 W c).trans (Function.update_self (Proc.devRef .tc main_v14) (mlpOut (F := F) _ _ _ _ _ _) (W c)).symm
  · refine ((dat2 W c).arrAt_in w ?_ _).trans (after2_ne (W c) _ ?_).symm
    · exact (by decide : ∀ w : Fin 7, w ≠ 6 → (win2 w).isOut = false) w hw
    · exact (by decide : ∀ w : Fin 7, w ≠ 6 → Pipeline.arrRef spec2 w ≠ main_v14) w hw

set_option backward.isDefEq.respectTransparency.types false in
/-- The first call's region, `R` beside it. -/
def reg2 (R : Dev nD → sProp 𝕄) : Pipeline.RegionSeg (pcfgs (F := F)) adm (pdats W) none defs₀ 𝒱₀ (K (F := F)).L (K (F := F)).lev 0 :=
  Pipeline.RegionSeg.ofHeld (pcfgs (F := F)) adm (pdats W) none defs₀ 𝒱₀ (K (F := F)).L (K (F := F)).lev 0 (fun _ => 0) (fun _ => BI.emp) (fun _ => BI.emp)
    launch2.toP rfl (fun c => (body2 W c).loose) (fun _ _ => rfl) (fun _ => rfl) (fun c => (dat2 W c).share_full fun _ => rfl)
    (fun c => show iprop(Pipeline.scopedRest spec2 c ∗ emp) ⊢ (Pipeline.scopedRest spec2 c : sProp 𝕄) from drop_emp _)
    (fun c => show (Pipeline.scopedRest spec2 c : sProp 𝕄) ⊢ iprop(Pipeline.scopedRest spec2 c ∗ emp) from add_emp _)
    (fun _ => 0) (cut 0) R W (fun c => after2 (W c)) (fun c w => rfl) (end2 W)

/-- Only the result changes. -/
theorem after3_ne (V : Valuation τ sig (Elt F)) (b : Ref sig .tc) (h : b ≠ main_v15) : after3 V (Proc.devRef .tc b) = V (Proc.devRef .tc b) :=
  Function.update_of_ne (fun e => h (Proc.devRef_injective _ e)) _ _

/-- Each window's array at the end of the second call. -/
theorem end3 (c : Dev nD) (w : Fin 7) : (dat3 W c).arrAt w cfg3.N = after3 (W c) (Proc.devRef .tc (Pipeline.arrRef spec3 w)) := by
  by_cases hw : w = 6
  · subst hw
    exact (out3 W c).trans (Function.update_self (Proc.devRef .tc main_v15) (mlpOut (F := F) _ _ _ _ _ _) (W c)).symm
  · refine ((dat3 W c).arrAt_in w ?_ _).trans (after3_ne (W c) _ ?_).symm
    · exact (by decide : ∀ w : Fin 7, w ≠ 6 → (win3 w).isOut = false) w hw
    · exact (by decide : ∀ w : Fin 7, w ≠ 6 → Pipeline.arrRef spec3 w ≠ main_v15) w hw

set_option backward.isDefEq.respectTransparency.types false in
/-- The second call's region, `R` beside it. -/
def reg3 (R : Dev nD → sProp 𝕄) : Pipeline.RegionSeg (pcfgs (F := F)) adm (pdats W) none defs₀ 𝒱₀ (K (F := F)).L (K (F := F)).lev 1 :=
  Pipeline.RegionSeg.ofHeld (pcfgs (F := F)) adm (pdats W) none defs₀ 𝒱₀ (K (F := F)).L (K (F := F)).lev 1 (fun _ => 0) (fun _ => BI.emp) (fun _ => BI.emp)
    launch3.toP rfl (fun c => (body3 W c).loose) (fun _ _ => rfl) (fun _ => rfl) (fun c => (dat3 W c).share_full fun _ => rfl)
    (fun c => show iprop(Pipeline.scopedRest spec3 c ∗ emp) ⊢ (Pipeline.scopedRest spec3 c : sProp 𝕄) from drop_emp _)
    (fun c => show (Pipeline.scopedRest spec3 c : sProp 𝕄) ⊢ iprop(Pipeline.scopedRest spec3 c ∗ emp) from add_emp _)
    (fun _ => 0) (cut 1) R W (fun c => after3 (W c)) (fun c w => rfl) (end3 W)

/-- The first call, over every unscoped buffer: its result is written, all else stands. -/
theorem call2 [∀ e, Nonempty (Elt F e)] (c : Dev nD) (V : Valuation τ sig (Elt F)) (Q : PUnit → sProp 𝕄) :
    iprop((iprop(boundary (T c) ∗ StableHlo.held (T c) (Pipeline.ucRefs τ sig) (after2 V) ∗ ∃ Wd, owes (T c) (0 : CellTallies nD τ sig (HIx 2)) Wd) -∗ Q ⟨⟩)
        ∗ boundary (T c) ∗ StableHlo.held (T c) (Pipeline.ucRefs τ sig) V ∗ (∃ Wd, owes (T c) (0 : CellTallies nD τ sig (HIx 2)) Wd)
        ∗ levAts (K (F := F)).L (K (F := F)).lev ∗ Pipeline.cellsGhost (Pipeline.pin (pcfgs (F := F)) adm) EP 0 c ∗ Pipeline.toksInit (Pipeline.pin (pcfgs (F := F)) adm) EP 0 c)
      ⊢ wp frame (wpE (D (F := F)) 𝒱 (T c) none) Set.univ (.op (.customCall (Pipeline.entry 0) ()) .ret) Q := by
  have hsub := Pipeline.arrRefs_sub_ucRefs (τ := τ) spec2 winFacts2.arr_unscoped
  have hrest : (StableHlo.held (T c) (Pipeline.ucRefs τ sig \ Pipeline.arrRefs spec2) (after2 V) : sProp 𝕄) = StableHlo.held (T c) (Pipeline.ucRefs τ sig \ Pipeline.arrRefs spec2) V :=
    StableHlo.held_congr _ fun b hb => Function.update_of_ne (fun h => (Finset.mem_sdiff.mp hb).2 (by rw [h]; exact Finset.mem_map.mpr ⟨main_v14, Finset.mem_image.mpr ⟨6, Finset.mem_univ _, rfl⟩, rfl⟩)) _ _
  have hwp := Pipeline.RegionSeg.wp (pcfgs (F := F)) adm (pdats fun _ => V) none cellOf_inj EP defs₀ 𝒱₀ (K (F := F)).L (K (F := F)).lev
    (reg2 (fun _ => V) fun c => StableHlo.held (T c) (Pipeline.ucRefs τ sig \ Pipeline.arrRefs spec2) V) c none (fun _ h => nomatch h) .ret Q
  rw [show (reg2 (fun _ => V) fun c => StableHlo.held (T c) (Pipeline.ucRefs τ sig \ Pipeline.arrRefs spec2) V).pre c = iprop(StableHlo.held (T c) (Pipeline.arrRefs spec2) V ∗ emp
      ∗ StableHlo.held (T c) (Pipeline.ucRefs τ sig \ Pipeline.arrRefs spec2) V ∗ ∃ Wd, owes (T c) (0 : CellTallies nD τ sig (HIx 2)) Wd) from rfl,
    show (reg2 (fun _ => V) fun c => StableHlo.held (T c) (Pipeline.ucRefs τ sig \ Pipeline.arrRefs spec2) V).post c = iprop(StableHlo.held (T c) (Pipeline.arrRefs spec2) (after2 V) ∗ emp
      ∗ StableHlo.held (T c) (Pipeline.ucRefs τ sig \ Pipeline.arrRefs spec2) V ∗ ∃ Wd, owes (T c) (0 : CellTallies nD τ sig (HIx 2)) Wd) from rfl] at hwp
  rw [StableHlo.held_sub_split (T c) hsub V, StableHlo.held_sub_split (T c) hsub (after2 V), hrest]
  iintro ⟨Hk, Hb, ⟨Ha, Hr⟩, Ho, Hl, Hc, Ht⟩
  iapply hwp
  isplitl [Hk]
  · iintro ⟨Hb, Ha, -, Hr, Ho⟩
    rw [wp_ret]
    imodintro
    iapply Hk
    isplitl [Hb]; · iexact Hb
    isplitr [Ho]
    · isplitl [Ha]; · iexact Ha
      iexact Hr
    iexact Ho
  isplitl [Hb]; · iexact Hb
  isplitr [Hl Hc Ht]
  · isplitl [Ha]; · iexact Ha
    isplitr; · iempintro
    isplitl [Hr]; · iexact Hr
    iexact Ho
  isplitl [Hl]; · iexact Hl
  isplitl [Hc]; · iexact Hc
  iexact Ht

/-- The second call, over every unscoped buffer: its result is written, all else stands. -/
theorem call3 [∀ e, Nonempty (Elt F e)] (c : Dev nD) (V : Valuation τ sig (Elt F)) (Q : PUnit → sProp 𝕄) :
    iprop((iprop(boundary (T c) ∗ StableHlo.held (T c) (Pipeline.ucRefs τ sig) (after3 V) ∗ ∃ Wd, owes (T c) (0 : CellTallies nD τ sig (HIx 2)) Wd) -∗ Q ⟨⟩)
        ∗ boundary (T c) ∗ StableHlo.held (T c) (Pipeline.ucRefs τ sig) V ∗ (∃ Wd, owes (T c) (0 : CellTallies nD τ sig (HIx 2)) Wd)
        ∗ levAts (K (F := F)).L (K (F := F)).lev ∗ Pipeline.cellsGhost (Pipeline.pin (pcfgs (F := F)) adm) EP 1 c ∗ Pipeline.toksInit (Pipeline.pin (pcfgs (F := F)) adm) EP 1 c)
      ⊢ wp frame (wpE (D (F := F)) 𝒱 (T c) none) Set.univ (.op (.customCall (Pipeline.entry 1) ()) .ret) Q := by
  have hsub := Pipeline.arrRefs_sub_ucRefs (τ := τ) spec3 winFacts3.arr_unscoped
  have hrest : (StableHlo.held (T c) (Pipeline.ucRefs τ sig \ Pipeline.arrRefs spec3) (after3 V) : sProp 𝕄) = StableHlo.held (T c) (Pipeline.ucRefs τ sig \ Pipeline.arrRefs spec3) V :=
    StableHlo.held_congr _ fun b hb => Function.update_of_ne (fun h => (Finset.mem_sdiff.mp hb).2 (by rw [h]; exact Finset.mem_map.mpr ⟨main_v15, Finset.mem_image.mpr ⟨6, Finset.mem_univ _, rfl⟩, rfl⟩)) _ _
  have hwp := Pipeline.RegionSeg.wp (pcfgs (F := F)) adm (pdats fun _ => V) none cellOf_inj EP defs₀ 𝒱₀ (K (F := F)).L (K (F := F)).lev
    (reg3 (fun _ => V) fun c => StableHlo.held (T c) (Pipeline.ucRefs τ sig \ Pipeline.arrRefs spec3) V) c none (fun _ h => nomatch h) .ret Q
  rw [show (reg3 (fun _ => V) fun c => StableHlo.held (T c) (Pipeline.ucRefs τ sig \ Pipeline.arrRefs spec3) V).pre c = iprop(StableHlo.held (T c) (Pipeline.arrRefs spec3) V ∗ emp
      ∗ StableHlo.held (T c) (Pipeline.ucRefs τ sig \ Pipeline.arrRefs spec3) V ∗ ∃ Wd, owes (T c) (0 : CellTallies nD τ sig (HIx 2)) Wd) from rfl,
    show (reg3 (fun _ => V) fun c => StableHlo.held (T c) (Pipeline.ucRefs τ sig \ Pipeline.arrRefs spec3) V).post c = iprop(StableHlo.held (T c) (Pipeline.arrRefs spec3) (after3 V) ∗ emp
      ∗ StableHlo.held (T c) (Pipeline.ucRefs τ sig \ Pipeline.arrRefs spec3) V ∗ ∃ Wd, owes (T c) (0 : CellTallies nD τ sig (HIx 2)) Wd) from rfl] at hwp
  rw [StableHlo.held_sub_split (T c) hsub V, StableHlo.held_sub_split (T c) hsub (after3 V), hrest]
  iintro ⟨Hk, Hb, ⟨Ha, Hr⟩, Ho, Hl, Hc, Ht⟩
  iapply hwp
  isplitl [Hk]
  · iintro ⟨Hb, Ha, -, Hr, Ho⟩
    rw [wp_ret]
    imodintro
    iapply Hk
    isplitl [Hb]; · iexact Hb
    isplitr [Ho]
    · isplitl [Ha]; · iexact Ha
      iexact Hr
    iexact Ho
  isplitl [Hb]; · iexact Hb
  isplitr [Hl Hc Ht]
  · isplitl [Ha]; · iexact Ha
    isplitr; · iempintro
    isplitl [Hr]; · iexact Hr
    iexact Ho
  isplitl [Hl]; · iexact Hl
  isplitl [Hc]; · iexact Hc
  iexact Ht

end Cert.Proof
-- ==== Proof.Host.lean ====
/- The host operations of the program: what the arrays hold after each stretch of them, as functions of the launch
   contents. -/
module

public import proofs.«01_k».proof.Proof.Obls
public import proofs.«01_k».proof.Proof.Region

@[expose] public section

set_option maxRecDepth 16384

noncomputable section

namespace Cert.Proof

open Cert.KernelIdeal Cert.KernelIdeal.Gen
open Idealize.ShloMosaic
open Idealize.ShloMosaic.ValueIdx (ix1 ix3 ix4)
open Idealize.ShloMosaic.SparseCore (S V T)
open Idealize.ShloMosaic.StableHlo (after seq)

variable {F : FTy → Type} [FloatOps F]

/-! ## The three stretches -/

/-- Before the first SparseCore call. -/
def ops0 : List (HloOp τ sig (Elt F)) :=
  [StableHlo.reshape main_arg0 main_v0 (rfl : (.i32 : EltTy) = .i32) shapeCasts_S16384_S2x32x2x128,
   StableHlo.reshape main_arg1 main_v1 (rfl : (.i32 : EltTy) = .i32) shapeCasts_S16384_S2x32x2x128,
   StableHlo.reshape main_arg5 main_v2 (rfl : (.f32 : EltTy) = .f32) shapeCasts_S256_S1x256,
   StableHlo.reshape main_arg7 main_v3 (rfl : (.f32 : EltTy) = .f32) shapeCasts_S1_S1x1,
   StableHlo.unary main_v0 main_v4 ((extractStridedSlice S1x32x2x128 ![0, 0, 0, 0] · slices_S2x32x2x128_S1x32x2x128_0_0_0_0) : (⟨S2x32x2x128, .i32⟩ : BufTy).Contents (Elt F) → (⟨S1x32x2x128, .i32⟩ : BufTy).Contents (Elt F)),
   StableHlo.reshape main_v4 main_v5 (rfl : (.i32 : EltTy) = .i32) shapeCasts_S1x32x2x128_S32x2x128,
   StableHlo.unary main_v1 main_v6 ((extractStridedSlice S1x32x2x128 ![0, 0, 0, 0] · slices_S2x32x2x128_S1x32x2x128_0_0_0_0) : (⟨S2x32x2x128, .i32⟩ : BufTy).Contents (Elt F) → (⟨S1x32x2x128, .i32⟩ : BufTy).Contents (Elt F)),
   StableHlo.reshape main_v6 main_v7 (rfl : (.i32 : EltTy) = .i32) shapeCasts_S1x32x2x128_S32x2x128]

/-- Between the two. -/
def ops1 : List (HloOp τ sig (Elt F)) :=
  [StableHlo.unary main_v0 main_v9 ((extractStridedSlice S1x32x2x128 ![1, 0, 0, 0] · slices_S2x32x2x128_S1x32x2x128_1_0_0_0) : (⟨S2x32x2x128, .i32⟩ : BufTy).Contents (Elt F) → (⟨S1x32x2x128, .i32⟩ : BufTy).Contents (Elt F)),
   StableHlo.reshape main_v9 main_v10 (rfl : (.i32 : EltTy) = .i32) shapeCasts_S1x32x2x128_S32x2x128,
   StableHlo.unary main_v1 main_v11 ((extractStridedSlice S1x32x2x128 ![1, 0, 0, 0] · slices_S2x32x2x128_S1x32x2x128_1_0_0_0) : (⟨S2x32x2x128, .i32⟩ : BufTy).Contents (Elt F) → (⟨S1x32x2x128, .i32⟩ : BufTy).Contents (Elt F)),
   StableHlo.reshape main_v11 main_v12 (rfl : (.i32 : EltTy) = .i32) shapeCasts_S1x32x2x128_S32x2x128]

/-- After the two TensorCore calls. -/
def ops2 : List (HloOp τ sig (Elt F)) :=
  [StableHlo.binary main_v14 main_v15 main_v16 ((fun a b => concatenate S1x16384 1 [⟨S1x8192, a⟩, ⟨S1x8192, b⟩] concatenates_S1x8192_S1x8192_S1x16384_d1) : (⟨S1x8192, .f32⟩ : BufTy).Contents (Elt F) → (⟨S1x8192, .f32⟩ : BufTy).Contents (Elt F) → (⟨S1x16384, .f32⟩ : BufTy).Contents (Elt F)),
   StableHlo.reshape main_v16 main_v17 (rfl : (.f32 : EltTy) = .f32) shapeCasts_S1x16384_S16384x1]

/-- The program is these stretches with the calls between. -/
theorem main_eq (d : Dev nD) : main (F := F) d = (seq ops0 >>= fun _ => (K (F := F)).run d 0 >>= fun _ => seq ops1 >>= fun _ => (K (F := F)).run d 1 >>= fun _ =>
    SparseCore.liftProg (.op (.customCall (Pipeline.entry 0) ()) .ret) >>= fun _ => SparseCore.liftProg (.op (.customCall (Pipeline.entry 1) ()) .ret) >>= fun _ => seq ops2) := by
  simp only [ops0, ops1, ops2, seq, bind_assoc, pure_bind]
  rfl

/-! ## The words of a call -/

/-- Half `q` of the row numbers, cut out of the list written as `[2, 32, 2, 128]`. -/
theorem words_of (q : Fin 2) (a : S16384.Idx → BitVec 32) (h : S2x32x2x128.Slices ![q.val, 0, 0, 0] S1x32x2x128) :
    shapeCast S32x2x128 (extractStridedSlice S1x32x2x128 ![q.val, 0, 0, 0] (shapeCast S2x32x2x128 a shapeCasts_S16384_S2x32x2x128) h) shapeCasts_S1x32x2x128_S32x2x128
      = wordsOf q a := by
  funext x
  have h0 : (x 0).val < 32 := (x 0).isLt
  have h1 : (x 1).val < 2 := (x 1).isLt
  have h2 : (x 2).val < 128 := (x 2).isLt
  refine (shapeCast_apply _ _ x (ValueIdx.ix4 (0 : Fin 1) (x 0 : Fin 32) (x 1 : Fin 2) (x 2 : Fin 128)) (by
    rw [Shape.rowMajor_val_four, Shape.rowMajor_val_three]; simp [ValueIdx.ix4])).trans ?_
  unfold extractStridedSlice wordsOf
  exact shapeCast_apply _ _ _ (ValueIdx.ix1 (⟨8192 * q.val + 256 * (x 0).val + 128 * (x 1).val + (x 2).val, by have := q.isLt; omega⟩ : Fin 16384)) (by
    rw [Shape.rowMajor_val_four, Shape.rowMajor_val_one]; simp [ValueIdx.ix4, ValueIdx.ix1]; omega)

/-! ## What the arrays hold, stretch by stretch -/

section Vals

variable (m : (ℓ : Loc nD τ sig) → Buf (Elt F) ℓ) (d : Dev nD)

/-- At launch. -/
def at0 : Valuation τ sig (Elt F) := fun b => m (d, b)

/-- When the first SparseCore call begins. -/
def at1 : Valuation τ sig (Elt F) := after ops0 (at0 m d)

/-- Once call `q` has filled its two arrays `a` and `b`. -/
def filled (a b : Ref sig .tc) (X : (Proc.devRef (τ := τ) .tc a).ty.Contents (Elt F)) (Y : (Proc.devRef (τ := τ) .tc b).ty.Contents (Elt F)) (W : Valuation τ sig (Elt F)) :
    Valuation τ sig (Elt F) :=
  Function.update (Function.update W (Proc.devRef .tc a) X) (Proc.devRef .tc b) Y

/-- When it ends. -/
def at2 : Valuation τ sig (Elt F) := filled main_v8_0 main_v8_1 (rowsU m 0 d) (rowsI m 0 d) (at1 m d)

/-- When the second begins. -/
def at3 : Valuation τ sig (Elt F) := after ops1 (at2 m d)

/-- When it ends. -/
def at4 : Valuation τ sig (Elt F) := filled main_v13_0 main_v13_1 (rowsU m 1 d) (rowsI m 1 d) (at3 m d)

/-- After the first TensorCore call. -/
def at5 : Valuation τ sig (Elt F) := after2 (at4 m d)

/-- After the second. -/
def at6 : Valuation τ sig (Elt F) := after3 (at5 m d)

/-- At the end. -/
def at7 : Valuation τ sig (Elt F) := after ops2 (at6 m d)

/-- Filling two arrays leaves every other as it was. -/
theorem filled_ne (a b e : Ref sig .tc) (X) (Y) (W : Valuation τ sig (Elt F)) (ha : e ≠ a) (hb : e ≠ b) :
    filled a b X Y W (Proc.devRef .tc e) = W (Proc.devRef .tc e) := by
  unfold filled
  rw [Function.update_of_ne (fun h => hb (Proc.devRef_injective .tc h)), Function.update_of_ne (fun h => ha (Proc.devRef_injective .tc h))]

/-- The second of the two filled. -/
theorem filled_snd (a b : Ref sig .tc) (X) (Y) (W : Valuation τ sig (Elt F)) : filled a b X Y W (Proc.devRef .tc b) = Y := by
  unfold filled; rw [Function.update_self]

/-- The first of the two filled. -/
theorem filled_fst (a b : Ref sig .tc) (X) (Y) (W : Valuation τ sig (Elt F)) (h : a ≠ b) : filled a b X Y W (Proc.devRef .tc a) = X := by
  unfold filled
  rw [Function.update_of_ne (fun e => h (Proc.devRef_injective .tc e)), Function.update_self]

/-- The arguments and the four arrays the calls fill are not written before the first call. -/
theorem at1_keeps : ∀ b ∈ [main_arg0, main_arg1, main_arg2, main_arg3, main_arg4, main_arg5, main_arg6, main_arg7, main_v8_0, main_v8_1, main_v13_0, main_v13_1],
    at1 m d (Proc.devRef .tc b) = m (arr d b) := by
  intro b hb
  unfold at1 ops0 at0
  simp only [List.mem_cons, List.not_mem_nil, or_false] at hb
  rcases hb with rfl | rfl | rfl | rfl | rfl | rfl | rfl | rfl | rfl | rfl | rfl | rfl <;> after_results

theorem at1_v5 : at1 m d (Proc.devRef .tc main_v5) = wordsOf 0 (m (arr d main_arg0)) := by
  unfold at1 ops0 at0
  after_results
  exact words_of 0 _ _

theorem at1_v7 : at1 m d (Proc.devRef .tc main_v7) = wordsOf 0 (m (arr d main_arg1)) := by
  unfold at1 ops0 at0
  after_results
  exact words_of 0 _ _

theorem at1_v0 : at1 m d (Proc.devRef .tc main_v0) = shapeCast S2x32x2x128 (m (arr d main_arg0)) shapeCasts_S16384_S2x32x2x128 := by
  unfold at1 ops0 at0
  after_results
  rfl

theorem at1_v1 : at1 m d (Proc.devRef .tc main_v1) = shapeCast S2x32x2x128 (m (arr d main_arg1)) shapeCasts_S16384_S2x32x2x128 := by
  unfold at1 ops0 at0
  after_results
  rfl

theorem at1_v2 : at1 m d (Proc.devRef .tc main_v2) = shapeCast S1x256 (m (arr d main_arg5)) shapeCasts_S256_S1x256 := by
  unfold at1 ops0 at0
  after_results
  rfl

theorem at1_v3 : at1 m d (Proc.devRef .tc main_v3) = shapeCast S1x1 (m (arr d main_arg7)) shapeCasts_S1_S1x1 := by
  unfold at1 ops0 at0
  after_results
  rfl

/-- The second stretch writes the second call's row numbers only. -/
theorem at3_keeps : ∀ b ∈ [main_arg0, main_arg1, main_arg2, main_arg3, main_arg4, main_arg5, main_arg6, main_arg7, main_v2, main_v3, main_v8_0, main_v8_1, main_v13_0, main_v13_1],
    at3 m d (Proc.devRef .tc b) = at2 m d (Proc.devRef .tc b) := by
  intro b hb
  unfold at3 ops1
  simp only [List.mem_cons, List.not_mem_nil, or_false] at hb
  rcases hb with rfl | rfl | rfl | rfl | rfl | rfl | rfl | rfl | rfl | rfl | rfl | rfl | rfl | rfl <;> after_results

theorem at3_v10 : at3 m d (Proc.devRef .tc main_v10) = wordsOf 1 (m (arr d main_arg0)) := by
  unfold at3 ops1
  after_results
  unfold at2
  rw [filled_ne _ _ _ _ _ _ (by decide) (by decide), at1_v0]
  exact words_of 1 _ _

theorem at3_v12 : at3 m d (Proc.devRef .tc main_v12) = wordsOf 1 (m (arr d main_arg1)) := by
  unfold at3 ops1
  after_results
  unfold at2
  rw [filled_ne _ _ _ _ _ _ (by decide) (by decide), at1_v1]
  exact words_of 1 _ _

/-- The arguments keep their launch contents up to the second call. -/
theorem at4_arg : ∀ b ∈ [main_arg0, main_arg1, main_arg2, main_arg3, main_arg4, main_arg5, main_arg6, main_arg7],
    at4 m d (Proc.devRef .tc b) = m (arr d b) ∧ at2 m d (Proc.devRef .tc b) = m (arr d b) := by
  intro b hb
  have h2 : at2 m d (Proc.devRef .tc b) = m (arr d b) := by
    unfold at2
    rw [filled_ne _ _ _ _ _ _ (by rintro rfl; revert hb; decide) (by rintro rfl; revert hb; decide)]
    exact at1_keeps m d b (by simp only [List.mem_cons, List.not_mem_nil, or_false] at hb ⊢; tauto)
  refine ⟨?_, h2⟩
  unfold at4
  rw [filled_ne _ _ _ _ _ _ (by rintro rfl; revert hb; decide) (by rintro rfl; revert hb; decide),
    at3_keeps m d b (by simp only [List.mem_cons, List.not_mem_nil, or_false] at hb ⊢; tauto), h2]

/-- The program's result: the two halves' rows through the perceptron, side by side, as one column. -/
def result : S16384x1.Idx → F .f32 :=
  shapeCast S16384x1 (concatenate S1x16384 1
    [⟨S1x8192, mlpOut (rowsU m 0 d) (rowsI m 0 d) (m (arr d main_arg4)) (shapeCast S1x256 (m (arr d main_arg5)) shapeCasts_S256_S1x256) (m (arr d main_arg6)) (shapeCast S1x1 (m (arr d main_arg7)) shapeCasts_S1_S1x1)⟩,
     ⟨S1x8192, mlpOut (rowsU m 1 d) (rowsI m 1 d) (m (arr d main_arg4)) (shapeCast S1x256 (m (arr d main_arg5)) shapeCasts_S256_S1x256) (m (arr d main_arg6)) (shapeCast S1x1 (m (arr d main_arg7)) shapeCasts_S1_S1x1)⟩]
    concatenates_S1x8192_S1x8192_S1x16384_d1) shapeCasts_S1x16384_S16384x1

/-- The arguments are at the end what they were at launch. -/
theorem at7_arg : ∀ b ∈ [main_arg0, main_arg1, main_arg2, main_arg3, main_arg4, main_arg5, main_arg6, main_arg7],
    at7 m d (Proc.devRef .tc b) = m (arr d b) := by
  intro b hb
  rw [← (at4_arg m d b hb).1]
  unfold at7 ops2
  simp only [List.mem_cons, List.not_mem_nil, or_false] at hb
  rcases hb with rfl | rfl | rfl | rfl | rfl | rfl | rfl | rfl <;>
    (after_results; unfold at6 at5; rw [after3_ne _ _ (by decide), after2_ne _ _ (by decide)])

/-- And the result array holds `result`. -/
theorem at7_out : at7 m d (Proc.devRef .tc main_v17) = result m d := by
  have hb : ∀ b ∈ [main_v2, main_v3], at4 m d (Proc.devRef .tc b) = at1 m d (Proc.devRef .tc b) := by
    intro b hb
    have hb' := hb
    simp only [List.mem_cons, List.not_mem_nil, or_false] at hb
    unfold at4
    rw [filled_ne _ _ _ _ _ _ (by rintro rfl; revert hb'; decide) (by rintro rfl; revert hb'; decide),
      at3_keeps m d b (by simp only [List.mem_cons, List.not_mem_nil, or_false]; tauto)]
    unfold at2
    rw [filled_ne _ _ _ _ _ _ (by rintro rfl; revert hb'; decide) (by rintro rfl; revert hb'; decide)]
  have e80 : at4 m d (Proc.devRef .tc main_v8_0) = rowsU m 0 d := by
    unfold at4
    rw [filled_ne _ _ _ _ _ _ (by decide) (by decide), at3_keeps m d main_v8_0 (by decide)]
    exact filled_fst _ _ _ _ _ (by decide)
  have e81 : at4 m d (Proc.devRef .tc main_v8_1) = rowsI m 0 d := by
    unfold at4
    rw [filled_ne _ _ _ _ _ _ (by decide) (by decide), at3_keeps m d main_v8_1 (by decide)]
    exact filled_snd _ _ _ _ _
  have e130 : at4 m d (Proc.devRef .tc main_v13_0) = rowsU m 1 d := filled_fst _ _ _ _ _ (by decide)
  have e131 : at4 m d (Proc.devRef .tc main_v13_1) = rowsI m 1 d := filled_snd _ _ _ _ _
  have e4 := (at4_arg m d main_arg4 (by decide)).1
  have e6 := (at4_arg m d main_arg6 (by decide)).1
  have e2 := (hb main_v2 (by decide)).trans (at1_v2 m d)
  have e3 := (hb main_v3 (by decide)).trans (at1_v3 m d)
  have f14 : at6 m d (Proc.devRef .tc main_v14) = mlpOut (rowsU m 0 d) (rowsI m 0 d) (m (arr d main_arg4)) (shapeCast S1x256 (m (arr d main_arg5)) shapeCasts_S256_S1x256) (m (arr d main_arg6)) (shapeCast S1x1 (m (arr d main_arg7)) shapeCasts_S1_S1x1) := by
    unfold at6
    rw [after3_ne _ _ (by decide)]
    unfold at5 after2
    rw [Function.update_self, e80, e81, e4, e2, e6, e3]
  have f15 : at6 m d (Proc.devRef .tc main_v15) = mlpOut (rowsU m 1 d) (rowsI m 1 d) (m (arr d main_arg4)) (shapeCast S1x256 (m (arr d main_arg5)) shapeCasts_S256_S1x256) (m (arr d main_arg6)) (shapeCast S1x1 (m (arr d main_arg7)) shapeCasts_S1_S1x1) := by
    unfold at6 after3
    rw [Function.update_self]
    unfold at5
    rw [after2_ne _ _ (by decide), after2_ne _ _ (by decide), after2_ne _ _ (by decide), after2_ne _ _ (by decide), after2_ne _ _ (by decide),
      after2_ne _ _ (by decide), e130, e131, e4, e2, e6, e3]
  unfold at7 ops2
  after_results
  rw [f14, f15]
  rfl

end Vals

end Cert.Proof

end
-- ==== Proof.Main.lean ====
/- The TensorCore's program around the calls, the launch of all the threads, and the run of the whole program: it ends
   on every schedule, with the arguments unchanged and the result array at `result`. -/
module

public import proofs.«01_k».proof.Proof.Host

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-! ## A call's six arrays among all of them -/

/-- The set of six arrays. -/
def sixSet (b : Fin 6 → Ref sig .tc) (hb : Function.Injective b) : Finset (DevRef τ sig) :=
  Finset.univ.map ⟨fun i => Proc.devRef (τ := τ) .tc (b i), (Proc.devRef_injective .tc).comp hb⟩

theorem sixSet_sub (b : Fin 6 → Ref sig .tc) (hb : Function.Injective b) (hu : ∀ i, (b i).isScoped = false) : sixSet b hb ⊆ Pipeline.ucRefs τ sig := by
  intro x hx
  obtain ⟨i, -, rfl⟩ := Finset.mem_map.mp hx
  exact Finset.mem_filter.mpr ⟨Finset.mem_map.mpr ⟨b i, Finset.mem_univ _, rfl⟩, by
    show ¬ (b i).isScoped = true
    rw [hu i]; exact Bool.false_ne_true⟩

/-- All the arrays held are six of them, each on its own, and the rest. -/
theorem held_six (d : Dev nD) (b : Fin 6 → Ref sig .tc) (hb : Function.Injective b) (hu : ∀ i, (b i).isScoped = false) (W : Valuation τ sig (Elt F)) :
    (StableHlo.held (T d) (Pipeline.ucRefs τ sig) W : sProp 𝕄)
      = iprop(((arr d (b 0) ↦{fullShare} W (Proc.devRef .tc (b 0))) ∗ (arr d (b 1) ↦{fullShare} W (Proc.devRef .tc (b 1)))
          ∗ (arr d (b 2) ↦{fullShare} W (Proc.devRef .tc (b 2))) ∗ (arr d (b 3) ↦{fullShare} W (Proc.devRef .tc (b 3)))
          ∗ (arr d (b 4) ↦{fullShare} W (Proc.devRef .tc (b 4))) ∗ (arr d (b 5) ↦{fullShare} W (Proc.devRef .tc (b 5))))
        ∗ StableHlo.held (T d) (Pipeline.ucRefs τ sig \ sixSet b hb) W) := by
  rw [StableHlo.held_sub_split (T d) (sixSet_sub b hb hu) W]
  congr 1
  unfold StableHlo.held sixSet
  rw [Idealize.SL.BI.bigSep_map, bigSep_univ_eq_bigSepL [0, 1, 2, 3, 4, 5] (by decide) (by decide)]
  rfl

/-- The six of the first call. -/
def six0 : Fin 6 → Ref sig .tc := ![main_arg2, main_arg3, main_v5, main_v7, main_v8_0, main_v8_1]
/-- The six of the second. -/
def six1 : Fin 6 → Ref sig .tc := ![main_arg2, main_arg3, main_v10, main_v12, main_v13_0, main_v13_1]

theorem six0_inj : Function.Injective six0 := by decide +kernel
theorem six1_inj : Function.Injective six1 := by decide +kernel
theorem six0_un : ∀ i, (six0 i).isScoped = false := by decide +kernel
theorem six1_un : ∀ i, (six1 i).isScoped = false := by decide +kernel

/-- The first call, with everything held: it fills its two arrays. -/
theorem scCall0 (κ : GSem nD τ sig → ℕ) (d : Dev nD) (Φ : PUnit → sProp 𝕄) :
    iprop((K (F := F)).ctx EH (P m) κ ∗ (K (F := F)).tcSt EH d 0 ∗ StableHlo.held (T d) (Pipeline.ucRefs τ sig) (at1 m d)
        ∗ (((K (F := F)).tcSt EH d 1 ∗ StableHlo.held (T d) (Pipeline.ucRefs τ sig) (at2 m d)) -∗ Φ ⟨⟩))
      ⊢ wp frame (wpE ((K (F := F)).defs (D (F := F))) 𝒱 (T d) none) Set.univ ((K (F := F)).run d 0) Φ := by
  have hin : (StableHlo.held (T d) (Pipeline.ucRefs τ sig) (at1 m d) : sProp 𝕄) = _ := held_six d six0 six0_inj six0_un (at1 m d)
  have hout : (StableHlo.held (T d) (Pipeline.ucRefs τ sig) (at2 m d) : sProp 𝕄) = _ := held_six d six0 six0_inj six0_un (at2 m d)
  have hrest : (StableHlo.held (T d) (Pipeline.ucRefs τ sig \ sixSet six0 six0_inj) (at2 m d) : sProp 𝕄)
      = StableHlo.held (T d) (Pipeline.ucRefs τ sig \ sixSet six0 six0_inj) (at1 m d) :=
    StableHlo.held_congr _ fun b hb => by
      unfold at2 filled
      rw [Function.update_of_ne, Function.update_of_ne]
      · rintro rfl; exact (Finset.mem_sdiff.mp hb).2 (Finset.mem_map.mpr ⟨4, Finset.mem_univ _, rfl⟩)
      · rintro rfl; exact (Finset.mem_sdiff.mp hb).2 (Finset.mem_map.mpr ⟨5, Finset.mem_univ _, rfl⟩)
  have e2 : at1 m d (Proc.devRef .tc (six0 0)) = m (arr d main_arg2) := at1_keeps m d main_arg2 (by decide)
  have e3 : at1 m d (Proc.devRef .tc (six0 1)) = m (arr d main_arg3) := at1_keeps m d main_arg3 (by decide)
  have e4 : at1 m d (Proc.devRef .tc (six0 2)) = wordsOf 0 (m (arr d main_arg0)) := at1_v5 m d
  have e5 : at1 m d (Proc.devRef .tc (six0 3)) = wordsOf 0 (m (arr d main_arg1)) := at1_v7 m d
  have e6 : at1 m d (Proc.devRef .tc (six0 4)) = m (arr d main_v8_0) := at1_keeps m d main_v8_0 (by decide)
  have e7 : at1 m d (Proc.devRef .tc (six0 5)) = m (arr d main_v8_1) := at1_keeps m d main_v8_1 (by decide)
  have f2 : at2 m d (Proc.devRef .tc (six0 0)) = m (arr d main_arg2) := (filled_ne _ _ _ _ _ _ (by decide) (by decide)).trans e2
  have f3 : at2 m d (Proc.devRef .tc (six0 1)) = m (arr d main_arg3) := (filled_ne _ _ _ _ _ _ (by decide) (by decide)).trans e3
  have f4 : at2 m d (Proc.devRef .tc (six0 2)) = wordsOf 0 (m (arr d main_arg0)) := (filled_ne _ _ _ _ _ _ (by decide) (by decide)).trans e4
  have f5 : at2 m d (Proc.devRef .tc (six0 3)) = wordsOf 0 (m (arr d main_arg1)) := (filled_ne _ _ _ _ _ _ (by decide) (by decide)).trans e5
  have f6 : at2 m d (Proc.devRef .tc (six0 4)) = rowsU m 0 d := filled_fst _ _ _ _ _ (by decide)
  have f7 : at2 m d (Proc.devRef .tc (six0 5)) = rowsI m 0 d := filled_snd _ _ _ _ _
  rw [e2, e3, e4, e5, e6, e7] at hin
  rw [hrest, f2, f3, f4, f5, f6, f7] at hout
  rw [hin, hout]
  iintro ⟨#Hctx, Hst, ⟨H6, Hr⟩, Hk⟩
  iapply ((K (F := F)).wp_run (D (F := F)) 𝒱 (EH := EH) (P := P m) κ d 0) $$ [Hst H6 Hr Hk]
  isplitr; · iexact Hctx
  isplitl [Hst]; · iexact Hst
  isplitl [H6]
  · rw [st0_eq, pieces0]; iexact H6
  rw [dn0_eq, pieces0]
  iintro ⟨Hst, H6⟩
  iapply Hk
  isplitl [Hst]; · iexact Hst
  isplitl [H6]; · iexact H6
  iexact Hr

/-- The second call, likewise. -/
theorem scCall1 (κ : GSem nD τ sig → ℕ) (d : Dev nD) (Φ : PUnit → sProp 𝕄) :
    iprop((K (F := F)).ctx EH (P m) κ ∗ (K (F := F)).tcSt EH d 1 ∗ StableHlo.held (T d) (Pipeline.ucRefs τ sig) (at3 m d)
        ∗ (((K (F := F)).tcSt EH d 2 ∗ StableHlo.held (T d) (Pipeline.ucRefs τ sig) (at4 m d)) -∗ Φ ⟨⟩))
      ⊢ wp frame (wpE ((K (F := F)).defs (D (F := F))) 𝒱 (T d) none) Set.univ ((K (F := F)).run d 1) Φ := by
  have hin : (StableHlo.held (T d) (Pipeline.ucRefs τ sig) (at3 m d) : sProp 𝕄) = _ := held_six d six1 six1_inj six1_un (at3 m d)
  have hout : (StableHlo.held (T d) (Pipeline.ucRefs τ sig) (at4 m d) : sProp 𝕄) = _ := held_six d six1 six1_inj six1_un (at4 m d)
  have hrest : (StableHlo.held (T d) (Pipeline.ucRefs τ sig \ sixSet six1 six1_inj) (at4 m d) : sProp 𝕄)
      = StableHlo.held (T d) (Pipeline.ucRefs τ sig \ sixSet six1 six1_inj) (at3 m d) :=
    StableHlo.held_congr _ fun b hb => by
      unfold at4 filled
      rw [Function.update_of_ne, Function.update_of_ne]
      · rintro rfl; exact (Finset.mem_sdiff.mp hb).2 (Finset.mem_map.mpr ⟨4, Finset.mem_univ _, rfl⟩)
      · rintro rfl; exact (Finset.mem_sdiff.mp hb).2 (Finset.mem_map.mpr ⟨5, Finset.mem_univ _, rfl⟩)
  have e2 : at3 m d (Proc.devRef .tc (six1 0)) = m (arr d main_arg2) := (at3_keeps m d main_arg2 (by decide)).trans (at4_arg m d main_arg2 (by decide)).2
  have e3 : at3 m d (Proc.devRef .tc (six1 1)) = m (arr d main_arg3) := (at3_keeps m d main_arg3 (by decide)).trans (at4_arg m d main_arg3 (by decide)).2
  have e4 : at3 m d (Proc.devRef .tc (six1 2)) = wordsOf 1 (m (arr d main_arg0)) := at3_v10 m d
  have e5 : at3 m d (Proc.devRef .tc (six1 3)) = wordsOf 1 (m (arr d main_arg1)) := at3_v12 m d
  have e6 : at3 m d (Proc.devRef .tc (six1 4)) = m (arr d main_v13_0) := (at3_keeps m d main_v13_0 (by decide)).trans
    ((filled_ne _ _ _ _ _ _ (by decide) (by decide)).trans (at1_keeps m d main_v13_0 (by decide)))
  have e7 : at3 m d (Proc.devRef .tc (six1 5)) = m (arr d main_v13_1) := (at3_keeps m d main_v13_1 (by decide)).trans
    ((filled_ne _ _ _ _ _ _ (by decide) (by decide)).trans (at1_keeps m d main_v13_1 (by decide)))
  have f2 : at4 m d (Proc.devRef .tc (six1 0)) = m (arr d main_arg2) := (filled_ne _ _ _ _ _ _ (by decide) (by decide)).trans e2
  have f3 : at4 m d (Proc.devRef .tc (six1 1)) = m (arr d main_arg3) := (filled_ne _ _ _ _ _ _ (by decide) (by decide)).trans e3
  have f4 : at4 m d (Proc.devRef .tc (six1 2)) = wordsOf 1 (m (arr d main_arg0)) := (filled_ne _ _ _ _ _ _ (by decide) (by decide)).trans e4
  have f5 : at4 m d (Proc.devRef .tc (six1 3)) = wordsOf 1 (m (arr d main_arg1)) := (filled_ne _ _ _ _ _ _ (by decide) (by decide)).trans e5
  have f6 : at4 m d (Proc.devRef .tc (six1 4)) = rowsU m 1 d := filled_fst _ _ _ _ _ (by decide)
  have f7 : at4 m d (Proc.devRef .tc (six1 5)) = rowsI m 1 d := filled_snd _ _ _ _ _
  rw [e2, e3, e4, e5, e6, e7] at hin
  rw [hrest, f2, f3, f4, f5, f6, f7] at hout
  rw [hin, hout]
  iintro ⟨#Hctx, Hst, ⟨H6, Hr⟩, Hk⟩
  iapply ((K (F := F)).wp_run (D (F := F)) 𝒱 (EH := EH) (P := P m) κ d 1) $$ [Hst H6 Hr Hk]
  isplitr; · iexact Hctx
  isplitl [Hst]; · iexact Hst
  isplitl [H6]
  · rw [st1_eq, pieces1]; iexact H6
  rw [dn1_eq, pieces1]
  iintro ⟨Hst, H6⟩
  iapply Hk
  isplitl [Hst]; · iexact Hst
  isplitl [H6]; · iexact H6
  iexact Hr

/-! ## The TensorCore calls, with nothing of the handshakes outstanding -/

/-- The TensorCore's handshake state after both SparseCore calls, but for its debts. -/
def settled (d : Dev nD) : sProp 𝕄 :=
  iprop(atPos EH ((K (F := F)).doneCell d) 2 ∅ 0 ∗ reached EH ((K (F := F)).doneCell d) 2
    ∗ (bigSep Finset.univ fun c : Fin τ.nSC => reached EH ((K (F := F)).startCell d c) ((K (F := F)).sRank c 2))
    ∗ bigSep (SparseCore.Cfg.callsFrom 2) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After both SparseCore calls the TensorCore owes nothing; -/
theorem tcSt_two (d : Dev nD) : ((K (F := F)).tcSt EH d 2 : sProp 𝕄) ⊢ iprop((∃ Wd, owes (T d) (0 : CellTallies nD τ sig (HIx 2)) Wd) ∗ settled (F := F) d) := by
  unfold SparseCore.Cfg.tcSt settled
  rw [show (K (F := F)).Otc d 2 = (0 : CellTallies nD τ sig (HIx 2)) from (K (F := F)).Otc_end d (le_refl 2)]
  iintro ⟨⟨%W, -, HO⟩, Hr⟩
  isplitl [HO]; · iexists W; iexact HO
  iexact Hr

/-- and whatever it then waits on stays within the bound its final state asks for. -/
theorem two_tcSt (d : Dev nD) : iprop((∃ Wd, owes (T d) (0 : CellTallies nD τ sig (HIx 2)) Wd) ∗ settled (F := F) d) ⊢ ((K (F := F)).tcSt EH d 2 : sProp 𝕄) := by
  unfold SparseCore.Cfg.tcSt settled
  rw [show (K (F := F)).Otc d 2 = (0 : CellTallies nD τ sig (HIx 2)) from (K (F := F)).Otc_end d (le_refl 2)]
  iintro ⟨⟨%W, HO⟩, Hr⟩
  have hW : (K (F := F)).WBelow (T d) W (8 * 2) := fun p _ => by
    rcases p with ⟨s, _ | q⟩
    · exact Nat.zero_le _
    · refine ((K (F := F)).lev_some_le _ q).trans ?_
      have h1 := q.isLt
      omega
  isplitl [HO]
  · iexists W
    isplitr; · ipureintro; exact hW
    iexact HO
  iexact Hr

/-! ## The program on the TensorCore -/

/-- What funds the two TensorCore calls' staging cells. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ Pipeline.cellsGhost (Pipeline.pin (pcfgs (F := F)) adm) EP 1 d ∗ Pipeline.toksInit (Pipeline.pin (pcfgs (F := F)) adm) EP 1 d)

/-- What the TensorCore ends with. -/
abbrev FIN (d : Dev nD) : sProp 𝕄 := StableHlo.held (T d) (Pipeline.ucRefs τ sig) (at7 m d)

theorem ops0_ok : (∀ op ∈ ops0 (F := F), op.bufs ⊆ Pipeline.ucRefs τ sig) ∧ ∀ op ∈ ops0 (F := F), op.fresh = ∅ := by
  constructor
  all_goals
    intro op h
    simp only [ops0, List.mem_cons, List.not_mem_nil, or_false] at h
  · rcases h with rfl | rfl | rfl | rfl | rfl | rfl | rfl | rfl <;> exact Pipeline.sub_ucRefs _ (by first | exact StableHlo.reshape_bufs_sub .. | exact StableHlo.unary_bufs_sub .. | exact StableHlo.binary_bufs_sub ..)
  · rcases h with rfl | rfl | rfl | rfl | rfl | rfl | rfl | rfl <;> rfl

theorem ops1_ok : (∀ op ∈ ops1 (F := F), op.bufs ⊆ Pipeline.ucRefs τ sig) ∧ ∀ op ∈ ops1 (F := F), op.fresh = ∅ := by
  constructor
  all_goals
    intro op h
    simp only [ops1, List.mem_cons, List.not_mem_nil, or_false] at h
  · rcases h with rfl | rfl | rfl | rfl <;> exact Pipeline.sub_ucRefs _ (by first | exact StableHlo.reshape_bufs_sub .. | exact StableHlo.unary_bufs_sub .. | exact StableHlo.binary_bufs_sub ..)
  · rcases h with rfl | rfl | rfl | rfl <;> rfl

theorem ops2_ok : (∀ op ∈ ops2 (F := F), op.bufs ⊆ Pipeline.ucRefs τ sig) ∧ ∀ op ∈ ops2 (F := F), op.fresh = ∅ := by
  constructor
  all_goals
    intro op h
    simp only [ops2, List.mem_cons, List.not_mem_nil, or_false] at h
  · rcases h with rfl | rfl <;> exact Pipeline.sub_ucRefs _ (by first | exact StableHlo.reshape_bufs_sub .. | exact StableHlo.unary_bufs_sub .. | exact StableHlo.binary_bufs_sub ..)
  · rcases h with rfl | rfl <;> rfl

/-- At launch everything unscoped is held, at its launch contents. -/
theorem held_launch (d : Dev nD) : (unscopedBufs d (fun b => m ((SparseCore.T d : Thread nD τ).loc b)) : sProp 𝕄) = StableHlo.held (SparseCore.T d) (Pipeline.ucRefs τ sig) (at0 m d) := by
  unfold at0
  exact Pipeline.unscopedBufs_held (Ix := HIx 2) (Name := ℕ) (U := UU) (Lvl := ℕ) d (fun b => m (d, b))

/-- A stretch of host operations. -/
theorem stretch (d : Dev nD) (ops : List (HloOp τ sig (Elt F))) (h : (∀ op ∈ ops, op.bufs ⊆ Pipeline.ucRefs τ sig) ∧ ∀ op ∈ ops, op.fresh = ∅)
    (W : Valuation τ sig (Elt F)) (Φ : PUnit → sProp 𝕄) :
    iprop(boundary (T d) ∗ StableHlo.held (T d) (Pipeline.ucRefs τ sig) W
        ∗ ((boundary (T d) ∗ StableHlo.held (T d) (Pipeline.ucRefs τ sig) (StableHlo.after ops W)) -∗ Φ ⟨⟩))
      ⊢ wp frame (wpE ((K (F := F)).defs (D (F := F))) 𝒱 (T d) none) Set.univ (StableHlo.seq ops) Φ := by
  have h := StableHlo.wp_seq (defs := (K (F := F)).defs (D (F := F))) 𝒱 none Set.univ d (Pipeline.ucRefs τ sig) (fun _ => pure ⟨⟩) (K := Φ) ops h.1 h.2 W
  rw [bind_pure, wp_pure] at h
  iintro ⟨Hb, Hh, Hk⟩
  ihave Hw := h $$ [Hb Hh]
  · isplitl [Hb]; · iexact Hb
    iexact Hh
  iapply Hw
  iintro H
  imodintro
  iapply Hk
  iexact H

/-- The program on the TensorCore of device `d`: from the launch contents to those at the end. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd G FIN
  rw [main_eq, held_launch]
  simp only [wp_bind]
  iintro ⟨#Hctx, Hst, ⟨Hb, Hh, Hts, -⟩, ⟨Hg0, Ht0⟩, Hg1, Ht1⟩
  ihave #Hlev := (SparseCore.Cfg.ctx_levAts κ) $$ Hctx
  iapply (stretch d ops0 ops0_ok (at0 m d) _)
  isplitl [Hb]; · iexact Hb
  isplitl [Hh]; · iexact Hh
  iintro ⟨Hb, Hh⟩
  iapply (scCall0 m κ d _)
  isplitr; · iexact Hctx
  isplitl [Hst]; · iexact Hst
  isplitl [Hh]; · iexact Hh
  iintro ⟨Hst, Hh⟩
  iapply (stretch d ops1 ops1_ok (at2 m d) _)
  isplitl [Hb]; · iexact Hb
  isplitl [Hh]; · iexact Hh
  iintro ⟨Hb, Hh⟩
  iapply (scCall1 m κ d _)
  isplitr; · iexact Hctx
  isplitl [Hst]; · iexact Hst
  isplitl [Hh]; · iexact Hh
  iintro ⟨Hst, Hh⟩
  ihave Hst' := (tcSt_two d) $$ Hst
  icases Hst' with ⟨HO, Hst⟩
  iapply ((K (F := F)).wp_liftProg (D (F := F)) 𝒱 (T d) Set.univ none _ _)
  iapply (call2 d (at4 m d) _)
  isplitr [Hb Hh HO Hg0 Ht0]
  swap
  · isplitl [Hb]; · iexact Hb
    isplitl [Hh]; · iexact Hh
    isplitl [HO]; · iexact HO
    isplitr; · iexact Hlev
    isplitl [Hg0]; · iexact Hg0
    iexact Ht0
  iintro ⟨Hb, Hh, HO⟩
  iapply ((K (F := F)).wp_liftProg (D (F := F)) 𝒱 (T d) Set.univ none _ _)
  iapply (call3 d (at5 m d) _)
  isplitr [Hb Hh HO Hg1 Ht1]
  swap
  · isplitl [Hb]; · iexact Hb
    isplitl [Hh]; · iexact Hh
    isplitl [HO]; · iexact HO
    isplitr; · iexact Hlev
    isplitl [Hg1]; · iexact Hg1
    iexact Ht1
  iintro ⟨Hb, Hh, HO⟩
  iapply (stretch d ops2 ops2_ok (at6 m d) _)
  isplitl [Hb]; · iexact Hb
  isplitl [Hh]; · iexact Hh
  iintro ⟨Hb, Hh⟩
  isplitl [HO Hst]
  · iapply (two_tcSt d)
    isplitl [HO]; · iexact HO
    iexact Hst
  isplitl [Hh]; · iexact Hh
  isplitl [Hb]; · iexact Hb
  iexact Hts

/-! ## The launch -/

/-- The launch element: the handshake cells' rounds, the staging cells' rounds. -/
def u₀ : UU := (initOf (K (F := F)).hsCells (K (F := F)).hsToks,
  (initOf (Pipeline.cells (nD := nD) (τ := τ) (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  have hG : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
      ⊢ bigSep Finset.univ fun d : Dev nD => (G (F := F) d : sProp 𝕄) := by
    rw [← bigSep_sep']
    refine bigSep_mono fun d _ => ?_
    unfold G
    rw [bigSep_univ_eq_bigSepL [0, 1] (by decide) (by decide), bigSep_univ_eq_bigSepL [0, 1] (by decide) (by decide)]
    show iprop((Pipeline.cellsGhost (Pipeline.pin (pcfgs (F := F)) adm) EP 0 d ∗ Pipeline.cellsGhost (Pipeline.pin (pcfgs (F := F)) adm) EP 1 d)
      ∗ Pipeline.toksInit (Pipeline.pin (pcfgs (F := F)) adm) EP 0 d ∗ (Pipeline.toksInit (Pipeline.pin (pcfgs (F := F)) adm) EP 1 d : sProp 𝕄)) ⊢ _
    iintro ⟨⟨A, B⟩, C, D⟩
    isplitl [A C]
    · isplitl [A]; · iexact A
      iexact C
    isplitl [B]; · iexact B
    iexact D
  have hx : (bigSep Finset.univ fun thr : Thread nD τ => bigSep Finset.univ fun q : Fin 2 => ((P m).x q thr : sProp 𝕄)) = iprop(emp) :=
    (bigSep_congr fun _ _ => bigSep_emp_const _).trans (bigSep_emp_const _)
  rw [hx]
  have hp (a : UP) : (BI.own ((embR : Emb (UP × Counters) 𝕄) (a, 1)) : sProp 𝕄) ⊢ iprop(BI.own (EP a) ∗ BI.own (((Emb.inr : Emb Counters (UP × Counters)).trans embR) 1)) :=
    own_pair_emb (embR : Emb (UP × Counters) 𝕄) a (1 : Counters)
  unfold u₀
  iintro Hu
  ihave H := (ownU_pair (initOf (K (F := F)).hsCells (K (F := F)).hsToks) _) $$ Hu
  icases H with ⟨HH, HR⟩
  ihave HR := (hp _) $$ HR
  icases HR with ⟨HP, -⟩
  imod (Pipeline.fund_ghost (Pipeline.pin (pcfgs (F := F)) adm) EP cellOf_inj) $$ HP with HG
  imodintro
  isplitl [HH]; · iexact HH
  isplitl [HG]; · iapply hG; iexact HG
  iempintro

/-! ## The run -/

/-- What the end holds of device `d`: the arguments as launched, and the result. -/
def fq (d : Dev nD) (s' : Phys nD τ sig (Elt F)) : Prop :=
  (∀ b ∈ [main_arg0, main_arg1, main_arg2, main_arg3, main_arg4, main_arg5, main_arg6, main_arg7], s'.mem.mem (arr d b) = m (arr d b))
    ∧ s'.mem.mem (arr d main_v17) = result m d

/-- One array held among all is what the memory has of it. -/
theorem held_agree (d : Dev nD) (b : Ref sig .tc) (hu : b.isScoped = false) (W : Valuation τ sig (Elt F)) (s' : Phys nD τ sig (Elt F)) :
    iprop(StableHlo.held (SparseCore.T d) (Pipeline.ucRefs τ sig) W ∗ SI s') ⊢ (⌜s'.mem.mem (arr d b) = W (Proc.devRef .tc b)⌝ : sProp 𝕄) := by
  have hm : Proc.devRef (τ := τ) .tc b ∈ Pipeline.ucRefs τ sig := Finset.mem_filter.mpr ⟨Finset.mem_map.mpr ⟨b, Finset.mem_univ _, rfl⟩, by
    show ¬ b.isScoped = true
    rw [hu]; exact Bool.false_ne_true⟩
  have he : (StableHlo.held (SparseCore.T d) (Pipeline.ucRefs τ sig) W : sProp 𝕄) ⊢ arr d b ↦{fullShare} W (Proc.devRef .tc b) := bigSep_elim hm
  iintro ⟨H, HSI⟩
  ihave H := he $$ H
  ihave H := (SI_pointsTo_agree (st := s') (ℓ := arr d b) (I := Finset.univ) (q := fullShare) (f := W (Proc.devRef .tc b))) $$ [HSI H]
  · isplitl [HSI] <;> iassumption
  icases H with %h
  ipureintro
  exact funext fun i => h i (Finset.mem_univ i)

theorem hfin (d : Dev nD) (s' : Phys nD τ sig (Elt F)) : iprop(FIN m d ∗ SI s') ⊢ (⌜fq m d s'⌝ : sProp 𝕄) := by
  have h : ∀ b ∈ [main_arg0, main_arg1, main_arg2, main_arg3, main_arg4, main_arg5, main_arg6, main_arg7, main_v17],
      iprop(FIN m d ∗ SI s') ⊢ (⌜s'.mem.mem (arr d b) = at7 m d (Proc.devRef .tc b)⌝ : sProp 𝕄) := fun b hb =>
    held_agree d b (by revert b; decide) _ s'
  intro x hx
  exact ⟨fun b hb => (h b (List.mem_append_left [main_v17] hb) x hx).trans (at7_arg m d b hb), (h main_v17 (by decide) x hx).trans (at7_out m d)⟩

/-- What the run ends with. -/
def QC : PUnit × MemSt nD τ sig (Elt F) → Prop := fun r =>
  (∀ d : Dev nD, (∀ b ∈ [main_arg0, main_arg1, main_arg2, main_arg3, main_arg4, main_arg5, main_arg6, main_arg7], r.2.mem (arr d b) = m (arr d b))
    ∧ r.2.mem (arr d main_v17) = result m d) ∧ r.2.sem = fun _ => 0

/-- On every schedule the program ends, the arguments unchanged, the result array at `result`, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => SparseCore.Cfg.VecSplit.of_plain (vecSplit m q))
    m ρ main (G (F := F)) (FIN m) (u₀ (F := F)) (sep_elim_left.trans (hu₀ m)) (hmain m ρ) (fq m) (hfin m) (QC m) (fun _ h hz => ⟨h, hz⟩)

end Cert.Proof

end
-- ==== Proof.Frames.lean ====
/- From the precondition to what the run asks for, and the kernel's two frames. -/
module

public import proofs.«01_k».proof.Defs
public import proofs.«01_k».proof.Proof.Gen.Kernel
public import proofs.«01_k».proof.Proof.Gen.KernelIdeal
public import proofs.«01_k».proof.Proof.Gen.Pre_rows_exist
public import proofs.«01_k».proof.Proof.Gen.ReferenceIdeal.Run
public import proofs.«01_k».proof.Proof.Main
public import Idealize.ShloMosaic.Lib.ReduceAll
public import Idealize.ShloMosaic.PureOps.BitExact
public import Idealize.ShloMosaic.PureOps.Ideal

@[expose] public section

set_option maxRecDepth 16384

noncomputable section

namespace Cert.Proof

open Idealize.ShloMosaic Idealize.SL.Sem

/-- A word at least 0 and below 100000 as a signed number is below 100000 as an unsigned one. -/
theorem row_of_word (v : BitVec 32) (h : IntOp.andi (IntOp.cmpi .sge v 0#32) (IntOp.cmpi .slt v 100000#32) = 1#1) : v.toNat < 100000 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at h
  omega

/-- The precondition, at any reading of the floats, says that every word of the two lists is a row's number. -/
theorem rows_of_pre {F : FTy → Type} [FloatOps F] (u i : IVec Cert.Pre_rows_exist.S16384 32) (a2 a3 : FVec F Cert.Pre_rows_exist.S100000x128 .f32) (a4 : FVec F Cert.Pre_rows_exist.S256x256 .f32)
    (a5 : FVec F Cert.Pre_rows_exist.S256 .f32) (a6 : FVec F Cert.Pre_rows_exist.S1x256 .f32) (a7 : FVec F Cert.Pre_rows_exist.S1 .f32)
    (h : Cert.Pre_rows_exist.fn u i a2 a3 a4 a5 a6 a7 = fun _ => 1#1) :
    (∀ x, (u x).toNat < 100000) ∧ ∀ x, (i x).toNat < 100000 := by
  have e := congrFun h (fun a => a.elim0)
  simp only [Cert.Pre_rows_exist.fn] at e
  have hand (p q : BitVec 1) (h : IntOp.andi p q = 1#1) : p = 1#1 ∧ q = 1#1 := by revert p q; decide
  obtain ⟨e1, e2⟩ := hand _ _ e
  constructor
  · intro x
    exact row_of_word _ (Host.reduce_andi_all _ _ _ _ _ e1 x)
  · intro x
    exact row_of_word _ (Host.reduce_andi_all _ _ _ _ _ e2 x)

theorem ok_of_pre (m : (ℓ : Loc Cert.KernelIdeal.nD Cert.KernelIdeal.τ Cert.KernelIdeal.sig) → Buf (Elt Ideal) ℓ) (h : Cert.Pre_KernelIdeal m) : PreOK m :=
  fun d => rows_of_pre _ _ _ _ _ _ _ _ (h d)

/-- The kernel's frame at any reading of the floats. -/
theorem frame_any {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) (h : PreOK m) :
    θ_run (Cert.KernelIdeal.defs (F := F)) (Cert.KernelIdeal.threads (F := F)) ⟨m, fun _ => 0, ρ⟩ (fun r => (∀ c : Dev Cert.KernelIdeal.nD,
      r.2.mem (arr c Cert.KernelIdeal.main_arg0) = m (arr c Cert.KernelIdeal.main_arg0)
      ∧ r.2.mem (arr c Cert.KernelIdeal.main_arg1) = m (arr c Cert.KernelIdeal.main_arg1)
      ∧ r.2.mem (arr c Cert.KernelIdeal.main_arg2) = m (arr c Cert.KernelIdeal.main_arg2)
      ∧ r.2.mem (arr c Cert.KernelIdeal.main_arg3) = m (arr c Cert.KernelIdeal.main_arg3)
      ∧ r.2.mem (arr c Cert.KernelIdeal.main_arg4) = m (arr c Cert.KernelIdeal.main_arg4)
      ∧ r.2.mem (arr c Cert.KernelIdeal.main_arg5) = m (arr c Cert.KernelIdeal.main_arg5)
      ∧ r.2.mem (arr c Cert.KernelIdeal.main_arg6) = m (arr c Cert.KernelIdeal.main_arg6)
      ∧ r.2.mem (arr c Cert.KernelIdeal.main_arg7) = m (arr c Cert.KernelIdeal.main_arg7))
      ∧ r.2.sem = fun _ => 0) :=
  (θ_run Cert.KernelIdeal.defs _ _).mono (fun _ r => ⟨fun c =>
      have a := (r.1 c).1
      ⟨a _ (by decide), a _ (by decide), a _ (by decide), a _ (by decide), a _ (by decide), a _ (by decide), a _ (by decide), a _ (by decide)⟩, r.2⟩)
    (run_main m ρ h)

/-- The kernel's frame, at exact floats. -/
theorem frame_ideal : Cert.quiescent_KernelIdeal := fun m ρ h => frame_any (F := Ideal) m ρ (ok_of_pre m h)

/-- The two programs, the kernel as traced and the one read at exact floats, have one text: the tables of kernel bodies agree, label by label. -/
theorem same_bodies {F : FTy → Type} [FloatOps F] : Cert.Kernel.defs₀ (F := F) = Cert.KernelIdeal.defs₀ (F := F) := by
  funext p l a
  match p, l, a with
  | .scVector c s, 0, _ => rfl
  | .scVector c s, 1, _ => rfl
  | .scVector c s, 2, _ => rfl
  | .scVector c s, 3, _ => rfl
  | .scScalar c, _, _ => rfl
  | .tc, 0, _ => rfl
  | .tc, 1, _ => rfl
  | .tc, 2, (t, s) => rfl
  | .tc, 3, (t, s) => rfl

/-- Hence so do the whole tables. -/
theorem same_defs {F : FTy → Type} [FloatOps F] : Cert.Kernel.defs (F := F) = Cert.KernelIdeal.defs (F := F) := by
  show Cert.Kernel.sc.defs (Pipeline.defs Cert.Kernel.pcfgs Cert.Kernel.defs₀) = Cert.KernelIdeal.sc.defs (Pipeline.defs Cert.KernelIdeal.pcfgs Cert.KernelIdeal.defs₀)
  exact congrArg (fun D => Cert.KernelIdeal.sc.defs (Pipeline.defs Cert.KernelIdeal.pcfgs D)) same_bodies

/-- The kernel's frame, at the machine's floats: the same run, the two programs having one text. -/
theorem frame_kernel : Cert.quiescent_Kernel := fun m ρ h => by
  have e := frame_any (F := Bits) m ρ fun d => rows_of_pre _ _ _ _ _ _ _ _ (h d)
  rw [← same_defs] at e
  exact e

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Score.lean ====
/- The perceptron's value on one pair of rows, and that both programs compute it: the kernel block by block, the
   reference on the whole batch. -/
module

public import proofs.«01_k».proof.Proof.Gen.KernelIdeal.Skeleton
public import proofs.«01_k».proof.Proof.Gen.ReferenceIdeal
public import Idealize.ShloMosaic.Lib.Pointwise

@[expose] public section

set_option maxRecDepth 16384

noncomputable section

namespace Cert.Proof

open Idealize.ShloMosaic

/-- Two rows of 128 side by side. -/
def pair (u v : Fin 128 → EReal) (k : Fin 256) : EReal :=
  if h : k.val < 128 then u ⟨k.val, h⟩ else v ⟨k.val - 128, by omega⟩

/-- The perceptron on one pair of rows: relu, a layer of 256 with relu, and one output. -/
def score (u v : Fin 128 → EReal) (w1 : (⟨2, ![256, 256]⟩ : Shape).Idx → EReal) (b1 : (⟨1, ![256]⟩ : Shape).Idx → EReal)
    (w2 : (⟨2, ![1, 256]⟩ : Shape).Idx → EReal) (b2 : (⟨1, ![1]⟩ : Shape).Idx → EReal) : EReal :=
  (∑ n : Fin 256, max ((∑ k : Fin 256, max (pair u v k) 0 * w1 (ix2 n k)) + b1 (ix1 n)) 0 * w2 (ix2 0 n)) + b2 (ix1 0)

section Kernel
open Cert.KernelIdeal Cert.KernelIdeal.Gen

/-- A block of the kernel's result holds the perceptron's values on the block's pairs of rows. -/
theorem block_score (xu xi : S2048x128.Idx → EReal) (w1 : S256x256.Idx → EReal) (b1 : S256.Idx → EReal) (w2 : S1x256.Idx → EReal)
    (b2 : S1.Idx → EReal) (y : Fin 2048) :
    k2_pay1 (F := Ideal) xu xi w1 (shapeCast S1x256 b1 shapeCasts_S256_S1x256) w2 (shapeCast S1x1 b2 shapeCasts_S1_S1x1) (ix2 0 y)
      = score (fun c => xu (ix2 y c)) (fun c => xi (ix2 y c)) w1 b1 w2 b2 := by
  pointwise [k2_pay1, score, pair]
  exact congrArg (· + b2 (ix1 0)) (Finset.sum_congr rfl fun _ _ => mul_comm _ _)

end Kernel

section Reference
open Cert.ReferenceIdeal Cert.ReferenceIdeal.Gen

/-- The reference from its two arrays of looked-up rows on. -/
def refScore (U V : FVec Ideal S16384x128 .f32) (w1 : FVec Ideal S256x256 .f32) (b1 : FVec Ideal S256 .f32) (w2 : FVec Ideal S1x256 .f32)
    (b2 : FVec Ideal S1 .f32) : FVec Ideal S16384x1 .f32 :=
  addf (Host.dotGeneral dot_S16384x256_S256x1_S16384x1_1_0_0_1_n_n none
      (maximumf (addf (Host.dotGeneral dot_S16384x256_S256x256_S16384x256_1_0_0_1_n_n none
            (maximumf (concatenate S16384x256 1 [⟨S16384x128, U⟩, ⟨S16384x128, V⟩] concatenates_S16384x128_S16384x128_S16384x256_d1)
              (broadcastInDim S16384x256 ![] bcast_S_S16384x256 (constant S_ .f32 0x00000000#32)))
            (transpose S256x256 [1, 0] w1 transposes_S256x256_S256x256_1_0))
          (broadcastInDim S16384x256 ![0, 1] bcast_S1x256_S16384x256_0_1 (broadcastInDim S1x256 ![1] bcast_S256_S1x256_1 b1)))
        (broadcastInDim S16384x256 ![] bcast_S_S16384x256 (constant S_ .f32 0x00000000#32)))
      (transpose S256x1 [1, 0] w2 transposes_S1x256_S256x1_1_0))
    (broadcastInDim S16384x1 ![0, 1] bcast_S1x1_S16384x1_0_1 (broadcastInDim S1x1 ![1] bcast_S1_S1x1_1 b2))

/-- Row `r` of the reference's result is the perceptron's value on the two rows looked up for `r`. -/
theorem ref_score (U V : FVec Ideal S16384x128 .f32) (w1 : FVec Ideal S256x256 .f32) (b1 : FVec Ideal S256 .f32) (w2 : FVec Ideal S1x256 .f32)
    (b2 : FVec Ideal S1 .f32) (r : Fin 16384) :
    refScore U V w1 b1 w2 b2 (ix2 r 0) = score (fun c => U (ix2 r c)) (fun c => V (ix2 r c)) w1 b1 w2 b2 := by
  pointwise [refScore, score, pair]

end Reference

end Cert.Proof

end
-- ==== Proof.Lookup.lean ====
/- The reference's row lookup: of a word that names a row, it takes that row. -/
module

public import proofs.«01_k».proof.Proof.Gen.ReferenceIdeal
public import proofs.«01_k».proof.Proof.Rows
public import Idealize.ShloMosaic.Lib.Pointwise
public import Idealize.ShloMosaic.Lib.ReduceAll

@[expose] public section

set_option maxRecDepth 16384

noncomputable section

namespace Cert.Proof

open Idealize.ShloMosaic
open Cert.ReferenceIdeal Cert.ReferenceIdeal.Gen

/-- The words as the reference uses them: a negative one counts from the table's end. -/
def wrapped (ix : IVec S16384 32) : IVec S16384x1 32 :=
  broadcastInDim S16384x1 ![0] bcast_S16384_S16384x1_0
    (select (cmpi .slt ix (broadcastInDim S16384 ![] bcast_S_S16384 (constantI S_ 32 0#32)))
      (addi ix (broadcastInDim S16384 ![] bcast_S_S16384 (constantI S_ 32 100000#32))) ix)

/-- The reference's lookup: the rows the words name, and a fill value where a word names none. -/
def refTake (t : FVec Ideal S100000x128 .f32) (ix : IVec S16384 32) : FVec Ideal S16384x128 .f32 :=
  select (broadcastInDim S16384x128 ![0] bcast_S16384_S16384x128_0
      (Host.reduce IntOp.andi
        (andi (cmpi .sge (wrapped ix) (broadcastInDim S16384x1 ![] bcast_S_S16384x1 (constantI S_ 32 0#32)))
          (cmpi .sle (wrapped ix) (broadcastInDim S16384x1 ![0, 1] bcast_S1x1_S16384x1_0_1 (broadcastInDim S1x1 ![1] bcast_S1_S1x1_1 (constantI S1 32 99999#32)))))
        (constantI S_ 1 1#1) reducesTo_S16384x1_S16384_d1 h_S_))
    (Host.gather gather_S100000x128_S16384x1_S16384x128_1_0_n_n_0_1_1128 t (wrapped ix))
    (broadcastInDim S16384x128 ![] bcast_S_S16384x128 (constant S_ .f32 0x7FC00000#32))

/-- A word below 100000 is not negative and at most 99999, as a signed number. -/
theorem word_signed (v : BitVec 32) (h : v.toNat < 100000) :
    IntOp.cmpi .slt v 0#32 = 0#1 ∧ IntOp.cmpi .sge v 0#32 = 1#1 ∧ IntOp.cmpi .sle v 99999#32 = 1#1 ∧ v.toInt.toNat = v.toNat := by
  have hone (p : Bool) : (BitVec.ofBool p = 1#1) ↔ p = true := by cases p <;> decide
  have hzero (p : Bool) : (BitVec.ofBool p = 0#1) ↔ p = false := by cases p <;> decide
  have e : v.toInt = v.toNat := by rw [BitVec.toInt_eq_toNat_cond]; omega
  simp only [IntOp.cmpi, hone, hzero, BitVec.sle_eq_decide, BitVec.slt_eq_decide, decide_eq_true_eq, decide_eq_false_iff_not, e]
  refine ⟨?_, ?_, ?_, ?_⟩ <;> simp <;> omega

/-- A word that names a row is used as it is. -/
theorem wrapped_apply (ix : IVec S16384 32) (h : ∀ x, (ix x).toNat < 100000) (j : S16384x1.Idx) : wrapped ix j = ix (ix1 (j 0)) := by
  pointwise [wrapped]
  rw [(word_signed _ (h _)).1]
  rfl

/-- The gather at an index: the operand at the row its word names, clamped into the table. -/
theorem gather_rows (t : FVec Ideal S100000x128 .f32) (w : IVec S16384x1 32) (r : Fin 16384) (c : Fin 128) :
    Host.gather gather_S100000x128_S16384x1_S16384x128_1_0_n_n_0_1_1128 t w (ix2 r c)
      = t (ix2 ⟨min (w (ix2 r 0)).toInt.toNat 99999, by omega⟩ c) := by
  unfold Host.gather
  refine congrArg t (funext fun a => Fin.ext ?_)
  show GatherDims.start _ _ _ a + GatherDims.batchCoord _ _ a + GatherDims.offCoord _ _ a = _
  rw [GatherDims.batchCoord_eq_zero _ _ _ (List.not_mem_nil)]
  rcases (by have : a.val < 2 := a.isLt; omega : a.val = 0 ∨ a.val = 1) with e | e
  · obtain rfl : a = (0 : Fin 2) := Fin.ext e
    rw [GatherDims.offCoord_eq_zero _ _ _ (fun h => ((GatherDims.mem_sKept _ _).mp h).1 (List.mem_singleton.mpr rfl))]
    unfold GatherDims.start
    rw [dif_pos (show (0 : Fin 2) ∈ gather_S100000x128_S16384x1_S16384x128_1_0_n_n_0_1_1128.startIndexMap from List.mem_singleton.mpr rfl)]
    refine congrArg (fun i => min (w i).toInt.toNat 99999) (funext fun b => Fin.ext ?_)
    match b with
    | ⟨0, _⟩ => rfl
    | ⟨1, _⟩ => rfl
  · obtain rfl : a = (1 : Fin 2) := Fin.ext e
    unfold GatherDims.start
    rw [dif_neg (show (1 : Fin 2) ∉ gather_S100000x128_S16384x1_S16384x128_1_0_n_n_0_1_1128.startIndexMap from (by decide : (1 : Fin 2) ∉ ([0] : List (Fin 2))))]
    refine (Nat.zero_add _).trans ?_
    rfl

/-- The reference's lookup at an index, of words that name rows. -/
theorem refTake_apply (t : FVec Ideal S100000x128 .f32) (ix : IVec S16384 32) (h : ∀ x, (ix x).toNat < 100000) (r : Fin 16384) (c : Fin 128) :
    refTake t ix (ix2 r c) = t (ix2 (tabRow (ix (ix1 r))) c) := by
  have hw := wrapped_apply ix h
  have hm : ∀ j, Host.reduce IntOp.andi
        (andi (cmpi .sge (wrapped ix) (broadcastInDim S16384x1 ![] bcast_S_S16384x1 (constantI S_ 32 0#32)))
          (cmpi .sle (wrapped ix) (broadcastInDim S16384x1 ![0, 1] bcast_S1x1_S16384x1_0_1 (broadcastInDim S1x1 ![1] bcast_S1_S1x1_1 (constantI S1 32 99999#32)))))
        (constantI S_ 1 1#1) reducesTo_S16384x1_S16384_d1 h_S_ j = 1#1 := fun j =>
    Host.reduce_andi_one _ _ _ _ j rfl fun i => by
      show IntOp.andi (IntOp.cmpi .sge (wrapped ix i) 0#32) (IntOp.cmpi .sle (wrapped ix i) 99999#32) = 1#1
      obtain ⟨-, a, b, -⟩ := word_signed (ix (ix1 (i 0))) (h _)
      rw [hw, a, b]
      rfl
  have hsel (b : IVec S16384 1) (hb : ∀ j, b j = 1#1) (g z : FVec Ideal S16384x128 .f32) :
      select (broadcastInDim S16384x128 ![0] bcast_S16384_S16384x128_0 b) g z (ix2 r c) = g (ix2 r c) := by
    pointwise
    rw [hb]
    rfl
  refine (hsel _ hm _ _).trans ?_
  rw [gather_rows]
  simp only [hw]
  refine congrArg t ?_
  obtain ⟨-, -, -, a⟩ := word_signed (ix (ix1 r)) (h _)
  have e : (⟨min (ix (ix1 r)).toInt.toNat 99999, by omega⟩ : Fin 100000) = tabRow (ix (ix1 r)) := by
    refine Fin.ext ?_
    have := h (ix1 r)
    show min (ix (ix1 r)).toInt.toNat 99999 = (ix (ix1 r)).toNat % 100000
    omega
  exact congrArg (fun a => ix2 a c) e

end Cert.Proof

end
-- ==== Proof.Equation.lean ====
/- The kernel's result and the reference's are the same array: row `r` of each is the perceptron's value on the two table
   rows that word `r` of the two lists names. -/
module

public import proofs.«01_k».proof.Proof.Score
public import proofs.«01_k».proof.Proof.Lookup
public import proofs.«01_k».proof.Proof.Frames

@[expose] public section

set_option maxRecDepth 16384

noncomputable section

namespace Cert.Proof

open Idealize.ShloMosaic Idealize.SL.Sem

/-- Two indices of rank 2 with the same coordinates are one index. -/
theorem idx2_same {a b : Nat} (x y : (⟨2, ![a, b]⟩ : Shape).Idx) (h0 : (x 0).val = (y 0).val) (h1 : (x 1).val = (y 1).val) : x = y := by
  funext k
  match k with
  | ⟨0, _⟩ => exact Fin.ext h0
  | ⟨1, _⟩ => exact Fin.ext h1

/-- The row of table `t` that word `r` of list `ix` names. -/
def looked (t : (⟨2, ![100000, 128]⟩ : Shape).Idx → EReal) (ix : (⟨1, ![16384]⟩ : Shape).Idx → BitVec 32) (r : Fin 16384) : Fin 128 → EReal :=
  fun c => t (ix2 (tabRow (ix (ix1 r))) c)

section Kernel
open Cert.KernelIdeal Cert.KernelIdeal.Gen

/-- A gather by half `q` of a list holds in its row `z` the row named by word `8192 q + z`. -/
theorem gathered_words (t : S100000x128.Idx → EReal) (ix : S16384.Idx → BitVec 32) (q : Fin 2) (z : S8192x128.Idx) (c : Fin 128)
    (r : Fin 16384) (hr : r.val = 8192 * q.val + (z 0).val) (hc : (z 1).val = c.val) :
    gathered t (wordsOf q ix) z = looked t ix r c := by
  have hz : (z 0).val < 8192 := (z 0).isLt
  unfold gathered wordsOf looked
  have e : (ValueIdx.ix1 (⟨8192 * q.val + 256 * ((z 0).val / 256) + 128 * ((z 0).val / 128 % 2) + (z 0).val % 128, by have := q.isLt; omega⟩ : Fin 16384) : S16384.Idx)
      = ix1 r := by
    rw [ix1_eq_valueIdx]
    exact congrArg ValueIdx.ix1 (Fin.ext (by show _ = r.val; simp only []; omega))
  refine congrArg t (idx2_same _ _ ?_ hc)
  exact congrArg (fun i => (tabRow (ix i)).val) e

/-- Column `z` of the perceptron's result on half `q` of the batch. -/
theorem half_score (m : (ℓ : Loc nD τ sig) → Buf (Elt Ideal) ℓ) (d : Dev nD) (q : Fin 2) (z : Fin 8192) (r : Fin 16384) (hr : r.val = 8192 * q.val + z.val) :
    mlpOut (F := Ideal) (rowsU m q d) (rowsI m q d) (m (arr d main_arg4)) (shapeCast S1x256 (m (arr d main_arg5)) shapeCasts_S256_S1x256)
        (m (arr d main_arg6)) (shapeCast S1x1 (m (arr d main_arg7)) shapeCasts_S1_S1x1) (ix2 0 z)
      = score (looked (m (arr d main_arg2)) (m (arr d main_arg0)) r) (looked (m (arr d main_arg3)) (m (arr d main_arg1)) r)
          (m (arr d main_arg4)) (m (arr d main_arg5)) (m (arr d main_arg6)) (m (arr d main_arg7)) := by
  have hz := z.isLt
  rw [mlpOut_at _ _ _ _ _ _ (⟨z.val / 2048, by omega⟩ : Fin 4) (ix2 0 (⟨z.val % 2048, Nat.mod_lt _ (by decide)⟩ : Fin 2048)) _
    (by show z.val = 2048 * (z.val / 2048) + z.val % 2048; omega)]
  refine (block_score _ _ _ _ _ _ _).trans ?_
  have row (t : S100000x128.Idx → EReal) (ix : S16384.Idx → BitVec 32) :
      (fun c => rowBlk (F := Ideal) (gathered t (wordsOf q ix)) (⟨z.val / 2048, by omega⟩ : Fin 4) (ix2 (⟨z.val % 2048, Nat.mod_lt _ (by decide)⟩ : Fin 2048) c)) = looked t ix r :=
    funext fun c => gathered_words t ix q _ c r (by show r.val = 8192 * q.val + (2048 * (z.val / 2048) + z.val % 2048); omega) rfl
  exact congrArg₂ (fun u v => score u v _ _ _ _) (row _ _) (row _ _)

/-- Two halves side by side, as one column. -/
theorem halves (A B : FVec Ideal S1x8192 .f32) (r : Fin 16384) :
    shapeCast S16384x1 (concatenate S1x16384 1 [⟨S1x8192, A⟩, ⟨S1x8192, B⟩] concatenates_S1x8192_S1x8192_S1x16384_d1) shapeCasts_S1x16384_S16384x1 (ix2 r 0)
      = if h : r.val < 8192 then A (ix2 0 ⟨r.val, h⟩) else B (ix2 0 ⟨r.val - 8192, by omega⟩) := by
  pointwise

/-- Row `r` of the kernel's result. -/
theorem result_apply (m : (ℓ : Loc nD τ sig) → Buf (Elt Ideal) ℓ) (d : Dev nD) (r : Fin 16384) :
    result (F := Ideal) m d (ix2 r 0)
      = score (looked (m (arr d main_arg2)) (m (arr d main_arg0)) r) (looked (m (arr d main_arg3)) (m (arr d main_arg1)) r)
          (m (arr d main_arg4)) (m (arr d main_arg5)) (m (arr d main_arg6)) (m (arr d main_arg7)) := by
  unfold result
  refine (halves _ _ r).trans ?_
  split
  next h => exact half_score m d 0 _ r (by show r.val = 8192 * 0 + r.val; omega)
  next h => exact half_score m d 1 _ r (by show r.val = 8192 * 1 + (r.val - 8192); omega)

end Kernel

section Reference
open Cert.ReferenceIdeal Cert.ReferenceIdeal.Gen

/-- Row `r` of the reference's result, of words that name rows. -/
theorem reference_apply (m : (ℓ : Loc nD τ sig) → Buf (Elt Ideal) ℓ) (c : Dev nD)
    (h0 : ∀ x, (m ((c.tc : Thread nD τ).loc main_arg0) x).toNat < 100000) (h1 : ∀ x, (m ((c.tc : Thread nD τ).loc main_arg1) x).toNat < 100000) (r : Fin 16384) :
    Cert.ReferenceIdeal.Value.res_main_v14 (F := Ideal) m c (ix2 r 0)
      = score (looked (m ((c.tc : Thread nD τ).loc main_arg2)) (m ((c.tc : Thread nD τ).loc main_arg0)) r)
          (looked (m ((c.tc : Thread nD τ).loc main_arg3)) (m ((c.tc : Thread nD τ).loc main_arg1)) r)
          (m ((c.tc : Thread nD τ).loc main_arg4)) (m ((c.tc : Thread nD τ).loc main_arg5)) (m ((c.tc : Thread nD τ).loc main_arg6)) (m ((c.tc : Thread nD τ).loc main_arg7)) := by
  have e : Cert.ReferenceIdeal.Value.res_main_v14 (F := Ideal) m c
      = refScore (refTake (m ((c.tc : Thread nD τ).loc main_arg2)) (m ((c.tc : Thread nD τ).loc main_arg0)))
          (refTake (m ((c.tc : Thread nD τ).loc main_arg3)) (m ((c.tc : Thread nD τ).loc main_arg1)))
          (m ((c.tc : Thread nD τ).loc main_arg4)) (m ((c.tc : Thread nD τ).loc main_arg5)) (m ((c.tc : Thread nD τ).loc main_arg6)) (m ((c.tc : Thread nD τ).loc main_arg7)) := by
    unfold Cert.ReferenceIdeal.Value.res_main_v14
    rfl
  rw [e]
  refine (ref_score _ _ _ _ _ _ r).trans ?_
  exact congrArg₂ (fun u v => score u v _ _ _ _) (funext fun k => refTake_apply _ _ h0 r k) (funext fun k => refTake_apply _ _ h1 r k)

end Reference

/-- The reference's frame under the precondition is its frame. -/
theorem frame_reference_rows : Cert.quiescent_ReferenceIdeal_pre_rows_exist := fun m ρ _ => frame_reference m ρ trivial

/-- From arguments that agree and whose words name rows, the reference's result is the kernel's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (hm : PreOK m)
    (h : m' ((c.tc : Thread Cert.ReferenceIdeal.nD Cert.ReferenceIdeal.τ).loc Cert.ReferenceIdeal.main_arg0) = m (arr c Cert.KernelIdeal.main_arg0)
      ∧ m' ((c.tc : Thread Cert.ReferenceIdeal.nD Cert.ReferenceIdeal.τ).loc Cert.ReferenceIdeal.main_arg1) = m (arr c Cert.KernelIdeal.main_arg1)
      ∧ m' ((c.tc : Thread Cert.ReferenceIdeal.nD Cert.ReferenceIdeal.τ).loc Cert.ReferenceIdeal.main_arg2) = m (arr c Cert.KernelIdeal.main_arg2)
      ∧ m' ((c.tc : Thread Cert.ReferenceIdeal.nD Cert.ReferenceIdeal.τ).loc Cert.ReferenceIdeal.main_arg3) = m (arr c Cert.KernelIdeal.main_arg3)
      ∧ m' ((c.tc : Thread Cert.ReferenceIdeal.nD Cert.ReferenceIdeal.τ).loc Cert.ReferenceIdeal.main_arg4) = m (arr c Cert.KernelIdeal.main_arg4)
      ∧ m' ((c.tc : Thread Cert.ReferenceIdeal.nD Cert.ReferenceIdeal.τ).loc Cert.ReferenceIdeal.main_arg5) = m (arr c Cert.KernelIdeal.main_arg5)
      ∧ m' ((c.tc : Thread Cert.ReferenceIdeal.nD Cert.ReferenceIdeal.τ).loc Cert.ReferenceIdeal.main_arg6) = m (arr c Cert.KernelIdeal.main_arg6)
      ∧ m' ((c.tc : Thread Cert.ReferenceIdeal.nD Cert.ReferenceIdeal.τ).loc Cert.ReferenceIdeal.main_arg7) = m (arr c Cert.KernelIdeal.main_arg7)) :
    Cert.ReferenceIdeal.Value.res_main_v14 (F := Ideal) m' c = result (F := Ideal) m c := by
  obtain ⟨e0, e1, e2, e3, e4, e5, e6, e7⟩ := h
  funext j
  obtain ⟨r, rfl⟩ : ∃ r : Fin 16384, j = ix2 r (0 : Fin 1) := ⟨j 0, idx2_same (a := 16384) (b := 1) _ _ rfl (by have : (j 1).val < 1 := (j 1).isLt; show (j 1).val = 0; omega)⟩
  refine (reference_apply m' c (fun x => ?_) (fun x => ?_) r).trans ((result_apply m c r).trans ?_).symm
  · rw [e0]; exact (hm c).1 x
  · rw [e1]; exact (hm c).2 x
  · rw [e0, e1, e2, e3, e4, e5, e6, e7]

/-- Over the extended reals the kernel and the reference compute the same function. -/
theorem algebraic : Cert.algebraic_KernelIdeal_ReferenceIdeal := fun m g m' g' hpre hargs =>
  ⟨fun c => result (F := Ideal) m c,
    (θ_run Cert.KernelIdeal.defs _ _).mono (fun _ r c =>
      have a := (r.1 c).1
      ⟨(r.1 c).2, a _ (by decide), a _ (by decide), a _ (by decide), a _ (by decide), a _ (by decide), a _ (by decide), a _ (by decide), a _ (by decide)⟩)
      (run_main m g (ok_of_pre m hpre)),
    (θ_run Cert.ReferenceIdeal.defs _ _).mono (fun _ h c => ⟨(h c).1.trans (same_result m m' c (ok_of_pre m hpre) (hargs c)), (h c).2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rows_exist
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_rows_exist.Gen.facts,
  frame_kernel, frame_ideal, frame_reference, frame_reference_rows, trivial, algebraic⟩

end Cert.Proof

end
